-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_z [hPre_finite_z : Cert.Pre_finite_z.Facts] (m : (ℓ : Loc Cert.KernelIdeal.nD Cert.KernelIdeal.τ Cert.KernelIdeal.sig) → Buf (Elt Ideal) ℓ) : Prop :=
  ∀ c : Dev Cert.KernelIdeal.nD,
    (Cert.Pre_finite_z.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_z [hPre_finite_z : Cert.Pre_finite_z.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_z.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_z [hKernelIdeal : Cert.KernelIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_z m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_z [hReferenceIdeal : Cert.ReferenceIdeal.Facts] [hPre_finite_z : Cert.Pre_finite_z.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_z m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_z [hKernelIdeal : Cert.KernelIdeal.Facts] [hReferenceIdeal : Cert.ReferenceIdeal.Facts] [hPre_finite_z : Cert.Pre_finite_z.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_z m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_z : Cert.Pre_finite_z.Facts),
    quiescent_Kernel (hKernel := hKernel)
    ∧ quiescent_KernelIdeal (hKernelIdeal := hKernelIdeal)
    ∧ quiescent_KernelIdeal_pre_finite_z (hKernelIdeal := hKernelIdeal) (hPre_finite_z := hPre_finite_z)
    ∧ quiescent_ReferenceIdeal (hReferenceIdeal := hReferenceIdeal)
    ∧ quiescent_ReferenceIdeal_pre_finite_z (hReferenceIdeal := hReferenceIdeal) (hPre_finite_z := hPre_finite_z)
    ∧ preserves_Kernel_KernelIdeal
    ∧ algebraic_KernelIdeal_ReferenceIdeal_pre_finite_z (hKernelIdeal := hKernelIdeal) (hReferenceIdeal := hReferenceIdeal) (hPre_finite_z := hPre_finite_z)
-- ==== Pre_finite_z.lean ====
abbrev S16x64x32x32 : Shape := ⟨4, ![16, 64, 32, 32]⟩
abbrev S1024x64 : Shape := ⟨2, ![1024, 64]⟩
abbrev S_ : Shape := ⟨0, ![]⟩

class Facts : Prop where
  bcast_S_S16x64x32x32 : S_.BroadcastsInDim S16x64x32x32 (![] : Fin 0 → Fin S16x64x32x32.rank)

variable [Facts]

def fn {F : FTy → Type} [FloatOps F] (main_arg0 : FVec F S16x64x32x32 .f32) (main_arg1 : FVec F S1024x64 .f32) : IVec S16x64x32x32 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  main_v2
-- ==== Kernel.lean ====
abbrev S16x64x32x32 : Shape := ⟨4, ![16, 64, 32, 32]⟩
abbrev S1024x64 : Shape := ⟨2, ![1024, 64]⟩
abbrev S16x64x1024 : Shape := ⟨3, ![16, 64, 1024]⟩
abbrev S1024 : Shape := ⟨1, ![1024]⟩
abbrev S1x1024 : Shape := ⟨2, ![1, 1024]⟩
abbrev S64x1024 : Shape := ⟨2, ![64, 1024]⟩
abbrev S_ : Shape := ⟨0, ![]⟩
abbrev S6x1024 : Shape := ⟨2, ![6, 1024]⟩
abbrev S72x1024 : Shape := ⟨2, ![72, 1024]⟩
abbrev S16x1x1024 : Shape := ⟨3, ![16, 1, 1024]⟩
abbrev S1x1 : Shape := ⟨2, ![1, 1]⟩
abbrev S4x64x1024 : Shape := ⟨3, ![4, 64, 1024]⟩
abbrev S4x1x1024 : Shape := ⟨3, ![4, 1, 1024]⟩
abbrev S1024x1 : Shape := ⟨2, ![1024, 1]⟩
abbrev S64x4096 : Shape := ⟨2, ![64, 4096]⟩
abbrev S1x64x1024 : Shape := ⟨3, ![1, 64, 1024]⟩
abbrev S1x4096 : Shape := ⟨2, ![1, 4096]⟩
abbrev S1024x4096 : Shape := ⟨2, ![1024, 4096]⟩
abbrev S4096 : Shape := ⟨1, ![4096]⟩
abbrev S72x4096 : Shape := ⟨2, ![72, 4096]⟩
abbrev S1x1x1024 : Shape := ⟨3, ![1, 1, 1024]⟩
abbrev S1x1x4096 : Shape := ⟨3, ![1, 1, 4096]⟩
abbrev S1 : Shape := ⟨1, ![1]⟩
abbrev S1x1x1 : Shape := ⟨3, ![1, 1, 1]⟩
abbrev S16x32x32 : Shape := ⟨3, ![16, 32, 32]⟩

abbrev nBuf : Space → Nat
  | .hbm => 17
  | .vmem => 13
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x64x1024, .f32⟩
  | .hbm, ⟨3, _⟩ => ⟨S1024, .f32⟩
  | .hbm, ⟨4, _⟩ => ⟨S1x1024, .f32⟩
  | .hbm, ⟨5, _⟩ => ⟨S64x1024, .f32⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S6x1024, .f32⟩
  | .hbm, ⟨10, _⟩ => ⟨S72x1024, .f32⟩
  | .hbm, ⟨11, _⟩ => ⟨S16x64x1024, .f32⟩
  | .hbm, ⟨12, _⟩ => ⟨S16x1x1024, .i32⟩
  | .hbm, ⟨13, _⟩ => ⟨S1x1, .f32⟩
  | .hbm, ⟨14, _⟩ => ⟨S16x64x32x32, .f32⟩
  | .hbm, ⟨15, _⟩ => ⟨S16x32x32, .i32⟩
  | .hbm, ⟨16, _⟩ => ⟨S_, .f32⟩
  | .local _ .vmem, ⟨0, _⟩ => ⟨S4x64x1024, .f32⟩
  | .local _ .vmem, ⟨1, _⟩ => ⟨S4x64x1024, .f32⟩
  | .local _ .vmem, ⟨2, _⟩ => ⟨S1024x64, .f32⟩
  | .local _ .vmem, ⟨3, _⟩ => ⟨S72x1024, .f32⟩
  | .local _ .vmem, ⟨4, _⟩ => ⟨S4x64x1024, .f32⟩
  | .local _ .vmem, ⟨5, _⟩ => ⟨S4x64x1024, .f32⟩
  | .local _ .vmem, ⟨6, _⟩ => ⟨S4x1x1024, .i32⟩
  | .local _ .vmem, ⟨7, _⟩ => ⟨S4x1x1024, .i32⟩
  | .local _ .vmem, ⟨8, _⟩ => ⟨S1x1, .f32⟩
  | .local _ .vmem, ⟨9, _⟩ => ⟨S1024x64, .f32⟩
  | .local _ .vmem, ⟨10, _⟩ => ⟨S1024x1, .f32⟩
  | .local _ .vmem, ⟨11, _⟩ => ⟨S64x4096, .f32⟩
  | .local _ .vmem, ⟨12, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v184 : BitVec 1 := Scalar.cmpi .eq arg0 c3_i32
  let v185 : BitVec 32 := Scalar.extui v184
  let c0_i32_97 : BitVec 32 := 0#32
  let v186 : BitVec 1 := Scalar.cmpi .ne v185 c0_i32_97
  v186

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S64x1024 : Shape := ⟨2, ![64, 1024]⟩
abbrev S16384x1024 : Shape := ⟨2, ![16384, 1024]⟩
abbrev S1x1024 : Shape := ⟨2, ![1, 1024]⟩
abbrev S1 : Shape := ⟨1, ![1]⟩
abbrev S1x1 : Shape := ⟨2, ![1, 1]⟩
abbrev S16x32x32 : Shape := ⟨3, ![16, 32, 32]⟩

abbrev nBuf : Space → Nat
  | .hbm => 97
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x1, .f32⟩
  | .hbm, ⟨20, _⟩ => ⟨S_, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x64, .f32⟩
  | .hbm, ⟨25, _⟩ => ⟨S1024x64, .f32⟩
  | .hbm, ⟨26, _⟩ => ⟨S16384x64, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x64, .f32⟩
  | .hbm, ⟨32, _⟩ => ⟨S16384x64, .f32⟩
  | .hbm, ⟨33, _⟩ => ⟨S64x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x64, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .i32⟩
  | .hbm, ⟨44, _⟩ => ⟨S_, .f32⟩
  | .hbm, ⟨45, _⟩ => ⟨S_, .i32⟩
  | .hbm, ⟨46, _⟩ => ⟨S16384, .f32⟩
  | .hbm, ⟨47, _⟩ => ⟨S16384, .i32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S1, .i32⟩
  | .hbm, ⟨57, _⟩ => ⟨S_, .i32⟩
  | .hbm, ⟨58, _⟩ => ⟨S16384x1, .i32⟩
  | .hbm, ⟨59, _⟩ => ⟨S16384x1, .i1⟩
  | .hbm, ⟨60, _⟩ => ⟨S1x1, .i32⟩
  | .hbm, ⟨61, _⟩ => ⟨S16384x1, .i32⟩
  | .hbm, ⟨62, _⟩ => ⟨S16384x1, .i1⟩
  | .hbm, ⟨63, _⟩ => ⟨S16384x1, .i1⟩
  | .hbm, ⟨64, _⟩ => ⟨S_, .i1⟩
  | .hbm, ⟨65, _⟩ => ⟨S16384, .i1⟩
  | .hbm, ⟨66, _⟩ => ⟨S16384x64, .f32⟩
  | .hbm, ⟨67, _⟩ => ⟨S16384x64, .i1⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16x32x32x64, .f32⟩
  | .hbm, ⟨72, _⟩ => ⟨S16x64x32x32, .f32⟩
  | .hbm, ⟨73, _⟩ => ⟨S16x64x32x32, .f32⟩
  | .hbm, ⟨74, _⟩ => ⟨S16x64x32x32, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S16x64x32x32, .f32⟩
  | .hbm, ⟨80, _⟩ => ⟨S16x64x32x32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S16x64x32x32, .f32⟩
  | .hbm, ⟨95, _⟩ => ⟨S16x64x32x32, .f32⟩
  | .hbm, ⟨96, _⟩ => ⟨S16x32x32, .i32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v6 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call4_v0 : Ref sig .tc := ⟨.hbm, 43, rfl⟩
abbrev main_call4_cst : Ref sig .tc := ⟨.hbm, 44, rfl⟩
abbrev main_call4_c : Ref sig .tc := ⟨.hbm, 45, rfl⟩
abbrev main_call4_v1_0 : Ref sig .tc := ⟨.hbm, 46, rfl⟩
abbrev main_v24 : Ref sig .tc := ⟨.hbm, 47, rfl⟩
abbrev main_call5_c : Ref sig .tc := ⟨.hbm, 48, rfl⟩
abbrev main_call5_v0 : Ref sig .tc := ⟨.hbm, 49, rfl⟩
abbrev main_call5_v1 : Ref sig .tc := ⟨.hbm, 50, rfl⟩
abbrev main_call5_c_0 : Ref sig .tc := ⟨.hbm, 51, rfl⟩
abbrev main_call5_v2 : Ref sig .tc := ⟨.hbm, 52, rfl⟩
abbrev main_call5_v3 : Ref sig .tc := ⟨.hbm, 53, rfl⟩
abbrev main_call5_v4 : Ref sig .tc := ⟨.hbm, 54, rfl⟩
abbrev main_call5_v5 : Ref sig .tc := ⟨.hbm, 55, rfl⟩
abbrev main_call5_c_1 : Ref sig .tc := ⟨.hbm, 56, rfl⟩
abbrev main_call5_c_2 : Ref sig .tc := ⟨.hbm, 57, rfl⟩
abbrev main_call5_v6 : Ref sig .tc := ⟨.hbm, 58, rfl⟩
abbrev main_call5_v7 : Ref sig .tc := ⟨.hbm, 59, rfl⟩
abbrev main_call5_v8 : Ref sig .tc := ⟨.hbm, 60, rfl⟩
abbrev main_call5_v9 : Ref sig .tc := ⟨.hbm, 61, rfl⟩
abbrev main_call5_v10 : Ref sig .tc := ⟨.hbm, 62, rfl⟩
abbrev main_call5_v11 : Ref sig .tc := ⟨.hbm, 63, rfl⟩
abbrev main_call5_c_3 : Ref sig .tc := ⟨.hbm, 64, rfl⟩
abbrev main_call5_v12 : Ref sig .tc := ⟨.hbm, 65, rfl⟩
abbrev main_call5_v13 : Ref sig .tc := ⟨.hbm, 66, rfl⟩
abbrev main_call5_v14 : Ref sig .tc := ⟨.hbm, 67, rfl⟩
abbrev main_call5_cst : Ref sig .tc := ⟨.hbm, 68, rfl⟩
abbrev main_call5_v15 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_6 : Ref sig .tc := ⟨.hbm, 81, rfl⟩
abbrev main_v34 : Ref sig .tc := ⟨.hbm, 82, rfl⟩
abbrev main_cst_7 : Ref sig .tc := ⟨.hbm, 83, rfl⟩
abbrev main_v35 : Ref sig .tc := ⟨.hbm, 84, rfl⟩
abbrev main_cst_8 : Ref sig .tc := ⟨.hbm, 85, rfl⟩
abbrev main_v36 : Ref sig .tc := ⟨.hbm, 86, rfl⟩
abbrev main_v37 : Ref sig .tc := ⟨.hbm, 87, rfl⟩
abbrev main_cst_9 : Ref sig .tc := ⟨.hbm, 88, rfl⟩
abbrev main_cst_10 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩

abbrev nD : Nat := 1
abbrev τ : Topo := Topo.v7x

variable {F : FTy → Type} [FloatOps F]
-- ==== Proof.Block.lean ====
/- What one grid point computes, as functions of the blocks it is handed and of the scratch it carries:
   the images of a block, the normalised columns, the two outputs' blocks, the running sum and the loss.
   Nothing here depends on the meaning of the float operations. -/
module

public import proofs.«01_k».proof.Proof.Gen.KernelIdeal.Skeleton
public import Idealize.ShloMosaic.Lib.PointwiseCore
public import Idealize.ShloMosaic.Lib.WholeRead
public import Idealize.ShloMosaic.Lib.VecWindow
public import Idealize.ShloMosaic.Lib.Writes

@[expose] public section

noncomputable section

namespace Cert.KernelIdeal.Vq

open Idealize.ShloMosaic Cert.KernelIdeal.Gen

variable {F : FTy → Type} [FloatOps F]

/-- Image `k` of a block of four images. -/
def img (x : Vec F S4x64x1024 .f32) (k : Fin 4) : Vec F S1x64x1024 .f32 :=
  fun i => x (ix3 k (i 1) (i 2))

/-- The normalised columns of the four images, one image's 1024 columns after the other's. -/
def cols (x : Vec F S4x64x1024 .f32) : Vec F S64x4096 .f32 :=
  fun i => k0_pay15 (img x ⟨(i 1).val / 1024, by have : (i 1).val < 4096 := (i 1).isLt; omega⟩)
    (ix2 (i 0) ⟨(i 1).val % 1024, Nat.mod_lt _ (by decide)⟩)

/-- Twice the products of the codebook's rows with the columns. -/
def prods (a : Vec F S1024x64 .f32) (x : Vec F S4x64x1024 .f32) : FVec F S1024x4096 .f32 :=
  k0_pay24 a (cols x)

/-- The columns' sums of squares, repeated over the codebook's rows. -/
def norms (x : Vec F S4x64x1024 .f32) : FVec F S1024x4096 .f32 :=
  k0_pay25 (k0_pay16 (img x 0)) (k0_pay19 (img x 1)) (img x 2) (img x 3)

/-- Some column attains its least distance at more than one row. -/
def ties (p n : FVec F S1024x4096 .f32) (se : Vec F S1024x1 .f32) (g : Vec F S72x1024 .f32) : Prop :=
  Scalar.cmpi .ne (Scalar.extui (Scalar.cmpf .ogt (k0_pay41 (k0_pay30 p n se g)) (Scalar.ofBits .f32 0x3FC00000#32)) : BitVec 32) 0#32 = 1#1

open scoped Classical in
/-- The chosen codebook rows as columns. -/
def quant (p n : FVec F S1024x4096 .f32) (se : Vec F S1024x1 .f32) (g : Vec F S72x1024 .f32) : FVec F S64x4096 .f32 :=
  if ties p n se g then k0_pay4 (k0_pay26 p n se) (k0_pay27 p n se) g else k0_pay29 p n se g

open scoped Classical in
/-- The chosen codebook rows' numbers. -/
def nearest (p n : FVec F S1024x4096 .f32) (se : Vec F S1024x1 .f32) (g : Vec F S72x1024 .f32) : IVec S1x4096 32 :=
  if ties p n se g then k0_pay3 (k0_pay26 p n se) (k0_pay27 p n se) else k0_pay31 p n se g

/-- 4096 columns cut into four images. -/
def imagesOf (q : FVec F S64x4096 .f32) : Vec F S4x64x1024 .f32 :=
  fun i => q (ix2 (i 1) ⟨(i 0).val * 1024 + (i 2).val, by
    have h0 : (i 0).val < 4 := (i 0).isLt
    have h2 : (i 2).val < 1024 := (i 2).isLt
    omega⟩)

/-- 4096 numbers cut into four rows. -/
def rowsOf (q : IVec S1x4096 32) : Vec F S4x1x1024 .i32 :=
  fun i => q (ix2 0 ⟨(i 0).val * 1024 + (i 2).val, by
    have h0 : (i 0).val < 4 := (i 0).isLt
    have h2 : (i 2).val < 1024 := (i 2).isLt
    omega⟩)

/-- The block of chosen rows a point writes, from the scratch's codebook `a`, its rows' sums of squares `se`, the
    augmented codebook `g` and the point's block `x`. -/
def blockQ (a : Vec F S1024x64 .f32) (se : Vec F S1024x1 .f32) (g : Vec F S72x1024 .f32) (x : Vec F S4x64x1024 .f32) : Vec F S4x64x1024 .f32 :=
  imagesOf (quant (prods a x) (norms x) se g)

/-- The block of chosen rows' numbers a point writes. -/
def blockI (a : Vec F S1024x64 .f32) (se : Vec F S1024x1 .f32) (g : Vec F S72x1024 .f32) (x : Vec F S4x64x1024 .f32) : Vec F S4x1x1024 .i32 :=
  rowsOf (nearest (prods a x) (norms x) se g)

/-- The running sum after a point: the squared differences of the point's two blocks added to the sum before. -/
def sumStep (q x : Vec F S4x64x1024 .f32) (s : Vec F S1x1 .f32) : Vec F S1x1 .f32 :=
  k0_pay1 (k0_pay46 (k0_pay45 (img q 0) (img x 0)) (img q 1) (img x 1) (img q 2) (img x 2) (img q 3) (img x 3) s)

/-! ## Reading the four images and putting four pieces together -/

/-- A load of image `k` of a whole block held at `x` reads `img x k`. -/
theorem load_img {m : Memref sig .tc .vmem S4x64x1024 .f32} (h : m.IsWhole) (x : Vec F S4x64x1024 .f32) (k : Fin 4)
    {off : Fin 3 → ℕ} (ho : off = ![k.val, 0, 0]) (inb : ∀ a, off a + S1x64x1024.size a ≤ S4x64x1024.size a) :
    View.readAt (Elt F) m.view (Rect.unit (s := S4x64x1024) off S1x64x1024.size inb).toLoadRect (h.unread x) = img x k := by
  subst ho
  funext j
  rw [h.readAt_unread]
  exact congrArg x (by funext a; apply Fin.ext; match a with
    | ⟨0, _⟩ => have : (j 0).val < 1 := (j 0).isLt; show k.val + 1 * (j 0).val = k.val; omega
    | ⟨1, _⟩ => show 0 + 1 * (j 1).val = (j 1).val; omega
    | ⟨2, _⟩ => show 0 + 1 * (j 2).val = (j 2).val; omega)

/-- `load_img` for image 0. -/
theorem load_img0 {m : Memref sig .tc .vmem S4x64x1024 .f32} (h : m.IsWhole) (x : Vec F S4x64x1024 .f32) :
    View.readAt (Elt F) m.view (Rect.unit (s := S4x64x1024) ![0, 0, 0] S1x64x1024.size inb_S4x64x1024_S1x64x1024_0_0_0).toLoadRect (h.unread x) = img x 0 :=
  load_img h x 0 rfl _

/-- `load_img` for image 1. -/
theorem load_img1 {m : Memref sig .tc .vmem S4x64x1024 .f32} (h : m.IsWhole) (x : Vec F S4x64x1024 .f32) :
    View.readAt (Elt F) m.view (Rect.unit (s := S4x64x1024) ![1, 0, 0] S1x64x1024.size inb_S4x64x1024_S1x64x1024_1_0_0).toLoadRect (h.unread x) = img x 1 :=
  load_img h x 1 rfl _

/-- `load_img` for image 2. -/
theorem load_img2 {m : Memref sig .tc .vmem S4x64x1024 .f32} (h : m.IsWhole) (x : Vec F S4x64x1024 .f32) :
    View.readAt (Elt F) m.view (Rect.unit (s := S4x64x1024) ![2, 0, 0] S1x64x1024.size inb_S4x64x1024_S1x64x1024_2_0_0).toLoadRect (h.unread x) = img x 2 :=
  load_img h x 2 rfl _

/-- `load_img` for image 3. -/
theorem load_img3 {m : Memref sig .tc .vmem S4x64x1024 .f32} (h : m.IsWhole) (x : Vec F S4x64x1024 .f32) :
    View.readAt (Elt F) m.view (Rect.unit (s := S4x64x1024) ![3, 0, 0] S1x64x1024.size inb_S4x64x1024_S1x64x1024_3_0_0).toLoadRect (h.unread x) = img x 3 :=
  load_img h x 3 rfl _

/-- A load of a whole memref held at `x` reads `x`. -/
theorem load_whole {s : Shape} {e : EltTy} {m : Memref sig .tc .vmem s e} (h : m.IsWhole) (x : Vec F s e) {off : Fin s.rank → ℕ}
    (inb : ∀ a, off a + s.size a ≤ s.size a) :
    View.readAt (Elt F) m.view (Rect.unit (s := s) off s.size inb).toLoadRect (h.unread x) = x := by
  rw [View.readAt_full, h.read_unread]

/-- A whole memref after four stores of images, whatever lies under them, holds the block whose images were stored. -/
theorem stores_images {m : Memref sig .tc .vmem S4x64x1024 .f32} (h : m.IsWhole) (f : m.view.ty.Contents (Elt F))
    (X : Vec F S4x64x1024 .f32) (w0 w1 w2 w3 : Vec F S1x64x1024 .f32)
    (h0 : w0 = img X 0) (h1 : w1 = img X 1) (h2 : w2 = img X 2) (h3 : w3 = img X 3) :
    m.view.writes (Elt F) f [⟨Rect.unit (s := S4x64x1024) ![3, 0, 0] S1x64x1024.size inb_S4x64x1024_S1x64x1024_3_0_0, w3⟩,
      ⟨Rect.unit (s := S4x64x1024) ![2, 0, 0] S1x64x1024.size inb_S4x64x1024_S1x64x1024_2_0_0, w2⟩,
      ⟨Rect.unit (s := S4x64x1024) ![1, 0, 0] S1x64x1024.size inb_S4x64x1024_S1x64x1024_1_0_0, w1⟩,
      ⟨Rect.unit (s := S4x64x1024) ![0, 0, 0] S1x64x1024.size inb_S4x64x1024_S1x64x1024_0_0_0, w0⟩] = h.unread X := by
  subst h0 h1 h2 h3
  refine h.eq_unread (funext fun y => ?_)
  have key : ∀ k : Fin 4, ∀ inb, ∀ x : S1x64x1024.Idx, img X k x = X ((Rect.unit (s := S4x64x1024) ![k.val, 0, 0] S1x64x1024.size inb).emb x) := by
    intro k inb x
    refine congrArg X ?_
    funext a; apply Fin.ext
    match a with
    | ⟨0, _⟩ => have : (x 0).val < 1 := (x 0).isLt; show k.val = k.val + 1 * (x 0).val; omega
    | ⟨1, _⟩ => show (x 1).val = 0 + 1 * (x 1).val; omega
    | ⟨2, _⟩ => show (x 2).val = 0 + 1 * (x 2).val; omega
  refine View.read_writes_apply_of_pieces m.view f X _ ?_ y ?_
  · intro p hp
    simp only [List.mem_cons, List.not_mem_nil, or_false] at hp
    rcases hp with rfl | rfl | rfl | rfl
    · exact key 3 inb_S4x64x1024_S1x64x1024_3_0_0
    · exact key 2 inb_S4x64x1024_S1x64x1024_2_0_0
    · exact key 1 inb_S4x64x1024_S1x64x1024_1_0_0
    · exact key 0 inb_S4x64x1024_S1x64x1024_0_0_0
  · have hy : (y 0).val < 4 := (y 0).isLt
    have hm : ∀ k inb, (y 0).val = k → y ∈ (Rect.unit (s := S4x64x1024) ![k, 0, 0] S1x64x1024.size inb).set := by
      intro k inb hk
      rw [Rect.mem_set_unit]
      intro a
      match a with
      | ⟨0, _⟩ => show k ≤ (y 0).val ∧ (y 0).val < k + 1; omega
      | ⟨1, _⟩ => have : (y 1).val < 64 := (y 1).isLt; show 0 ≤ (y 1).val ∧ (y 1).val < 0 + 64; omega
      | ⟨2, _⟩ => have : (y 2).val < 1024 := (y 2).isLt; show 0 ≤ (y 2).val ∧ (y 2).val < 0 + 1024; omega
    rcases (by omega : (y 0).val = 3 ∨ (y 0).val = 2 ∨ (y 0).val = 1 ∨ (y 0).val = 0) with e | e | e | e
    · exact ⟨_, List.mem_cons_self, hm 3 inb_S4x64x1024_S1x64x1024_3_0_0 e⟩
    · exact ⟨_, List.mem_cons_of_mem _ List.mem_cons_self, hm 2 inb_S4x64x1024_S1x64x1024_2_0_0 e⟩
    · exact ⟨_, List.mem_cons_of_mem _ (List.mem_cons_of_mem _ List.mem_cons_self), hm 1 inb_S4x64x1024_S1x64x1024_1_0_0 e⟩
    · exact ⟨_, List.mem_cons_of_mem _ (List.mem_cons_of_mem _ (List.mem_cons_of_mem _ List.mem_cons_self)), hm 0 inb_S4x64x1024_S1x64x1024_0_0_0 e⟩

/-- Row `k` of a block of four rows of numbers. -/
def row (x : Vec F S4x1x1024 .i32) (k : Fin 4) : Vec F S1x1x1024 .i32 :=
  fun i => x (ix3 k (i 1) (i 2))

/-- A whole memref after four stores of rows, whatever lies under them, holds the block whose rows were stored. -/
theorem stores_rows {m : Memref sig .tc .vmem S4x1x1024 .i32} (h : m.IsWhole) (f : m.view.ty.Contents (Elt F))
    (X : Vec F S4x1x1024 .i32) (w0 w1 w2 w3 : Vec F S1x1x1024 .i32)
    (h0 : w0 = row X 0) (h1 : w1 = row X 1) (h2 : w2 = row X 2) (h3 : w3 = row X 3) :
    m.view.writes (Elt F) f [⟨Rect.unit (s := S4x1x1024) ![3, 0, 0] S1x1x1024.size inb_S4x1x1024_S1x1x1024_3_0_0, w3⟩,
      ⟨Rect.unit (s := S4x1x1024) ![2, 0, 0] S1x1x1024.size inb_S4x1x1024_S1x1x1024_2_0_0, w2⟩,
      ⟨Rect.unit (s := S4x1x1024) ![1, 0, 0] S1x1x1024.size inb_S4x1x1024_S1x1x1024_1_0_0, w1⟩,
      ⟨Rect.unit (s := S4x1x1024) ![0, 0, 0] S1x1x1024.size inb_S4x1x1024_S1x1x1024_0_0_0, w0⟩] = h.unread X := by
  subst h0 h1 h2 h3
  refine h.eq_unread (funext fun y => ?_)
  have key : ∀ k : Fin 4, ∀ inb, ∀ x : S1x1x1024.Idx, row X k x = X ((Rect.unit (s := S4x1x1024) ![k.val, 0, 0] S1x1x1024.size inb).emb x) := by
    intro k inb x
    refine congrArg X ?_
    funext a; apply Fin.ext
    match a with
    | ⟨0, _⟩ => have : (x 0).val < 1 := (x 0).isLt; show k.val = k.val + 1 * (x 0).val; omega
    | ⟨1, _⟩ => show (x 1).val = 0 + 1 * (x 1).val; omega
    | ⟨2, _⟩ => show (x 2).val = 0 + 1 * (x 2).val; omega
  refine View.read_writes_apply_of_pieces m.view f X _ ?_ y ?_
  · intro p hp
    simp only [List.mem_cons, List.not_mem_nil, or_false] at hp
    rcases hp with rfl | rfl | rfl | rfl
    · exact key 3 inb_S4x1x1024_S1x1x1024_3_0_0
    · exact key 2 inb_S4x1x1024_S1x1x1024_2_0_0
    · exact key 1 inb_S4x1x1024_S1x1x1024_1_0_0
    · exact key 0 inb_S4x1x1024_S1x1x1024_0_0_0
  · have hy : (y 0).val < 4 := (y 0).isLt
    have hm : ∀ k inb, (y 0).val = k → y ∈ (Rect.unit (s := S4x1x1024) ![k, 0, 0] S1x1x1024.size inb).set := by
      intro k inb hk
      rw [Rect.mem_set_unit]
      intro a
      match a with
      | ⟨0, _⟩ => show k ≤ (y 0).val ∧ (y 0).val < k + 1; omega
      | ⟨1, _⟩ => have : (y 1).val < 1 := (y 1).isLt; show 0 ≤ (y 1).val ∧ (y 1).val < 0 + 1; omega
      | ⟨2, _⟩ => have : (y 2).val < 1024 := (y 2).isLt; show 0 ≤ (y 2).val ∧ (y 2).val < 0 + 1024; omega
    rcases (by omega : (y 0).val = 3 ∨ (y 0).val = 2 ∨ (y 0).val = 1 ∨ (y 0).val = 0) with e | e | e | e
    · exact ⟨_, List.mem_cons_self, hm 3 inb_S4x1x1024_S1x1x1024_3_0_0 e⟩
    · exact ⟨_, List.mem_cons_of_mem _ List.mem_cons_self, hm 2 inb_S4x1x1024_S1x1x1024_2_0_0 e⟩
    · exact ⟨_, List.mem_cons_of_mem _ (List.mem_cons_of_mem _ List.mem_cons_self), hm 1 inb_S4x1x1024_S1x1x1024_1_0_0 e⟩
    · exact ⟨_, List.mem_cons_of_mem _ (List.mem_cons_of_mem _ (List.mem_cons_of_mem _ List.mem_cons_self)), hm 0 inb_S4x1x1024_S1x1x1024_0_0_0 e⟩

/-- A whole memref after the four images' normalised columns were stored side by side holds `cols`. -/
theorem stores_cols {m : Memref sig .tc .vmem S64x4096 .f32} (h : m.IsWhole) (f : m.view.ty.Contents (Elt F))
    (X : Vec F S4x64x1024 .f32) (w0 w1 w2 w3 : Vec F S64x1024 .f32)
    (h0 : w0 = k0_pay15 (img X 0)) (h1 : w1 = k0_pay15 (img X 1)) (h2 : w2 = k0_pay15 (img X 2)) (h3 : w3 = k0_pay15 (img X 3)) :
    m.view.writes (Elt F) f [⟨Rect.unit (s := S64x4096) ![0, 3072] S64x1024.size inb_S64x4096_S64x1024_0_3072, w3⟩,
      ⟨Rect.unit (s := S64x4096) ![0, 2048] S64x1024.size inb_S64x4096_S64x1024_0_2048, w2⟩,
      ⟨Rect.unit (s := S64x4096) ![0, 1024] S64x1024.size inb_S64x4096_S64x1024_0_1024, w1⟩,
      ⟨Rect.unit (s := S64x4096) ![0, 0] S64x1024.size inb_S64x4096_S64x1024_0_0, w0⟩] = h.unread (cols X) := by
  subst h0 h1 h2 h3
  refine h.eq_unread (funext fun y => ?_)
  have key : ∀ k : Fin 4, ∀ off inb, off = k.val * 1024 → ∀ x : S64x1024.Idx,
      k0_pay15 (img X k) x = cols X ((Rect.unit (s := S64x4096) ![0, off] S64x1024.size inb).emb x) := by
    intro k off inb hoff x
    have hx : (x 1).val < 1024 := (x 1).isLt
    have gen : ∀ y : S64x4096.Idx, (y 0).val = (x 0).val → (y 1).val = off + (x 1).val → k0_pay15 (img X k) x = cols X y := by
      intro y h0 h1
      have hb : (y 1).val / 1024 < 4 := by have := k.isLt; omega
      have ek : k = ⟨(y 1).val / 1024, hb⟩ := Fin.ext (by show k.val = (y 1).val / 1024; omega)
      have ex : x = ix2 (y 0) ⟨(y 1).val % 1024, Nat.mod_lt _ (by decide)⟩ := by
        funext a; apply Fin.ext
        match a with
        | ⟨0, _⟩ => exact h0.symm
        | ⟨1, _⟩ => show (x 1).val = (y 1).val % 1024; omega
      exact congr (congrArg (fun k => k0_pay15 (img X k)) ek) ex
    exact gen _ (by show 0 + 1 * (x 0).val = _; omega) (by show off + 1 * (x 1).val = _; omega)
  refine View.read_writes_apply_of_pieces m.view f (cols X) _ ?_ y ?_
  · intro p hp
    simp only [List.mem_cons, List.not_mem_nil, or_false] at hp
    rcases hp with rfl | rfl | rfl | rfl
    · exact key 3 3072 inb_S64x4096_S64x1024_0_3072 rfl
    · exact key 2 2048 inb_S64x4096_S64x1024_0_2048 rfl
    · exact key 1 1024 inb_S64x4096_S64x1024_0_1024 rfl
    · exact key 0 0 inb_S64x4096_S64x1024_0_0 rfl
  · have hy : (y 1).val < 4096 := (y 1).isLt
    have hm : ∀ off inb, off ≤ (y 1).val → (y 1).val < off + 1024 → y ∈ (Rect.unit (s := S64x4096) ![0, off] S64x1024.size inb).set := by
      intro off inb h1 h2
      rw [Rect.mem_set_unit]
      intro a
      match a with
      | ⟨0, _⟩ => have : (y 0).val < 64 := (y 0).isLt; show 0 ≤ (y 0).val ∧ (y 0).val < 0 + 64; omega
      | ⟨1, _⟩ => exact ⟨h1, h2⟩
    rcases (by omega : (3072 ≤ (y 1).val ∧ (y 1).val < 3072 + 1024) ∨ (2048 ≤ (y 1).val ∧ (y 1).val < 2048 + 1024)
        ∨ (1024 ≤ (y 1).val ∧ (y 1).val < 1024 + 1024) ∨ (0 ≤ (y 1).val ∧ (y 1).val < 0 + 1024)) with e | e | e | e
    · exact ⟨_, List.mem_cons_self, hm 3072 inb_S64x4096_S64x1024_0_3072 e.1 e.2⟩
    · exact ⟨_, List.mem_cons_of_mem _ List.mem_cons_self, hm 2048 inb_S64x4096_S64x1024_0_2048 e.1 e.2⟩
    · exact ⟨_, List.mem_cons_of_mem _ (List.mem_cons_of_mem _ List.mem_cons_self), hm 1024 inb_S64x4096_S64x1024_0_1024 e.1 e.2⟩
    · exact ⟨_, List.mem_cons_of_mem _ (List.mem_cons_of_mem _ (List.mem_cons_of_mem _ List.mem_cons_self)), hm 0 inb_S64x4096_S64x1024_0_0 e.1 e.2⟩

/-- A load of the whole scratch after the four images' normalised columns were stored reads `cols`. -/
theorem load_cols {m : Memref sig .tc .vmem S64x4096 .f32} (h : m.IsWhole) (X : Vec F S4x64x1024 .f32) :
    m.view.readCov (Val := Elt F) [⟨Rect.unit (s := S64x4096) ![0, 3072] S64x1024.size inb_S64x4096_S64x1024_0_3072, k0_pay23 (img X 3)⟩,
      ⟨Rect.unit (s := S64x4096) ![0, 2048] S64x1024.size inb_S64x4096_S64x1024_0_2048, k0_pay21 (img X 2)⟩,
      ⟨Rect.unit (s := S64x4096) ![0, 1024] S64x1024.size inb_S64x4096_S64x1024_0_1024, k0_pay18 (img X 1)⟩,
      ⟨Rect.unit (s := S64x4096) ![0, 0] S64x1024.size inb_S64x4096_S64x1024_0_0, k0_pay15 (img X 0)⟩]
      (Rect.unit (s := S64x4096) ![0, 0] S64x4096.size inb_S64x4096_S64x4096_0_0).toLoadRect = cols X := by
  unfold View.readCov
  exact (congrArg (View.readAt (Elt F) m.view _) (stores_cols h _ X _ _ _ _ rfl rfl rfl rfl)).trans (load_whole h _ _)

/-- A slice of 1024 of the 4096 columns, cast to one image, is an image of the columns cut into four. -/
theorem slice_images (q : FVec F S64x4096 .f32) (k : Fin 4) {off : Fin 2 → ℕ} (ho : off = ![0, k.val * 1024])
    (hs : S64x4096.Slices off S64x1024) (hc : S64x1024.ShapeCasts S1x64x1024) :
    shapeCast S1x64x1024 (extractStridedSlice S64x1024 off q hs) hc = img (imagesOf q) k := by
  subst ho
  funext j
  have hj : (j 0).val < 1 := (j 0).isLt
  rw [shapeCast_apply _ hc j (ix2 (j 1) (j 2)) (by
    rw [Shape.rowMajor_val_two, Shape.rowMajor_val_three]; show (j 1).val * 1024 + (j 2).val = ((j 0).val * 64 + (j 1).val) * 1024 + (j 2).val; omega)]
  refine extractStridedSlice_apply _ q hs _ _ fun a => ?_
  match a with
  | ⟨0, _⟩ => show (j 1).val = 0 + (j 1).val; omega
  | ⟨1, _⟩ => rfl

/-- A slice of 1024 of the 4096 numbers, cast to one row, is a row of the numbers cut into four. -/
theorem slice_rows (q : IVec S1x4096 32) (k : Fin 4) {off : Fin 2 → ℕ} (ho : off = ![0, k.val * 1024])
    (hs : S1x4096.Slices off S1x1024) (hc : S1x1024.ShapeCasts S1x1x1024) :
    shapeCast S1x1x1024 (extractStridedSlice S1x1024 off q hs) hc = row (F := F) (rowsOf q) k := by
  subst ho
  funext j
  have hj : (j 0).val < 1 := (j 0).isLt
  have hj1 : (j 1).val < 1 := (j 1).isLt
  rw [shapeCast_apply _ hc j (ix2 (j 1) (j 2)) (by
    rw [Shape.rowMajor_val_two, Shape.rowMajor_val_three]; show (j 1).val * 1024 + (j 2).val = ((j 0).val * 1 + (j 1).val) * 1024 + (j 2).val; omega)]
  refine extractStridedSlice_apply _ q hs _ _ fun a => ?_
  match a with
  | ⟨0, _⟩ => show 0 = 0 + (j 1).val; omega
  | ⟨1, _⟩ => rfl

/-! ## Four stores over earlier ones, and a load after them -/

/-- `stores_images` over any earlier stores. -/
theorem stored_images {m : Memref sig .tc .vmem S4x64x1024 .f32} (h : m.IsWhole) (f : m.view.ty.Contents (Elt F))
    (L : List (View.Piece (Elt F) S4x64x1024 .f32)) (X : Vec F S4x64x1024 .f32) :
    m.view.writes (Elt F) f (⟨Rect.unit (s := S4x64x1024) ![3, 0, 0] S1x64x1024.size inb_S4x64x1024_S1x64x1024_3_0_0, img X 3⟩
      :: ⟨Rect.unit (s := S4x64x1024) ![2, 0, 0] S1x64x1024.size inb_S4x64x1024_S1x64x1024_2_0_0, img X 2⟩
      :: ⟨Rect.unit (s := S4x64x1024) ![1, 0, 0] S1x64x1024.size inb_S4x64x1024_S1x64x1024_1_0_0, img X 1⟩
      :: ⟨Rect.unit (s := S4x64x1024) ![0, 0, 0] S1x64x1024.size inb_S4x64x1024_S1x64x1024_0_0_0, img X 0⟩ :: L) = h.unread X :=
  stores_images h (m.view.writes (Elt F) f L) X _ _ _ _ rfl rfl rfl rfl

/-- `stores_rows` over any earlier stores. -/
theorem stored_rows {m : Memref sig .tc .vmem S4x1x1024 .i32} (h : m.IsWhole) (f : m.view.ty.Contents (Elt F))
    (L : List (View.Piece (Elt F) S4x1x1024 .i32)) (X : Vec F S4x1x1024 .i32) :
    m.view.writes (Elt F) f (⟨Rect.unit (s := S4x1x1024) ![3, 0, 0] S1x1x1024.size inb_S4x1x1024_S1x1x1024_3_0_0, row X 3⟩
      :: ⟨Rect.unit (s := S4x1x1024) ![2, 0, 0] S1x1x1024.size inb_S4x1x1024_S1x1x1024_2_0_0, row X 2⟩
      :: ⟨Rect.unit (s := S4x1x1024) ![1, 0, 0] S1x1x1024.size inb_S4x1x1024_S1x1x1024_1_0_0, row X 1⟩
      :: ⟨Rect.unit (s := S4x1x1024) ![0, 0, 0] S1x1x1024.size inb_S4x1x1024_S1x1x1024_0_0_0, row X 0⟩ :: L) = h.unread X :=
  stores_rows h (m.view.writes (Elt F) f L) X _ _ _ _ rfl rfl rfl rfl

/-- A load of the first image after all four images of a block were stored. -/
theorem load_stored {m : Memref sig .tc .vmem S4x64x1024 .f32} (h : m.IsWhole)
    (L : List (View.Piece (Elt F) S4x64x1024 .f32)) (X : Vec F S4x64x1024 .f32) :
    m.view.readCov (Val := Elt F) (⟨Rect.unit (s := S4x64x1024) ![3, 0, 0] S1x64x1024.size inb_S4x64x1024_S1x64x1024_3_0_0, img X 3⟩
      :: ⟨Rect.unit (s := S4x64x1024) ![2, 0, 0] S1x64x1024.size inb_S4x64x1024_S1x64x1024_2_0_0, img X 2⟩
      :: ⟨Rect.unit (s := S4x64x1024) ![1, 0, 0] S1x64x1024.size inb_S4x64x1024_S1x64x1024_1_0_0, img X 1⟩
      :: ⟨Rect.unit (s := S4x64x1024) ![0, 0, 0] S1x64x1024.size inb_S4x64x1024_S1x64x1024_0_0_0, img X 0⟩ :: L)
      (Rect.unit (s := S4x64x1024) ![0, 0, 0] S1x64x1024.size inb_S4x64x1024_S1x64x1024_0_0_0).toLoadRect = img X 0 :=
  (congrArg (View.readAt (Elt F) m.view _) (stored_images h _ L X)).trans (load_img0 h X)

end Cert.KernelIdeal.Vq

end
-- ==== Proof.Body.lean ====
/- What the body of the kernel does to the memory it holds at one grid point, in three stretches: the columns are
   normalised and multiplied with the codebook, the two blocks of results are written, the running sum and
   (at the last point) the loss are written. -/
module

public import proofs.«01_k».proof.Proof.Block
public import proofs.«01_k».proof.Proof.Gen.KernelIdeal.Frame

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The point is the first one. -/
abbrev first (i : grid0.Coords) : Prop :=
  Scalar.cmpi .ne (Scalar.extui (Scalar.cmpi .eq (BitVec.ofNat 32 (i 0).val) 0#32) : BitVec 32) 0#32 = 1#1

/-- The first stretch at the first point: the codebook is normalised into the scratch, the sum starts at zero, and the
    stretch returns the products and the norms. -/
theorem stretch1_first (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hf : first i) (x : Vec F S4x64x1024 .f32) (e : Vec F S1024x64 .f32) (E : Set ℕ) (K : PUnit → sProp 𝕄)
    (k : FVec F S1024x4096 .f32 → FVec F S1024x4096 .f32 → Prog (TpuEff nD τ sig (Elt F) Λ₀ .tc) PUnit) :
    iprop(owns (c : Thread nD τ) arg1 fullShare x ∗ owns (c : Thread nD τ) arg2 fullShare e
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e
            ∗ owns (c : Thread nD τ) arg7 fullShare (k0_pay11 e) ∗ owns (c : Thread nD τ) arg8 fullShare (k0_pay12 e)
            ∗ (∃ d, owns (c : Thread nD τ) arg9 fullShare d) ∗ owns (c : Thread nD τ) arg10 fullShare k0_pay13)
          -∗ wp frame (wpE (defs₀ (F := F)) Variants.none c none) E (k (prods (k0_pay11 e) x) (norms x)) K))
      ⊢ wp frame (wpE (defs₀ (F := F)) Variants.none c none) E (do
          let ⟨_, v18, v34⟩ ← k0_part2 i arg1 harg1 arg2 harg2 arg3 harg3 arg4 harg4 arg5 harg5 arg6 harg6 arg7 harg7 arg8 harg8 arg9 harg9 arg10 harg10
          let ⟨v72, v73⟩ ← k0_part3 i arg1 harg1 arg2 harg2 arg3 harg3 arg4 harg4 arg5 harg5 arg6 harg6 arg7 harg7 arg8 harg8 arg9 harg9 arg10 harg10 v18 v34
          k v72 v73) K := by
  simp only [k0_part2_eq_skeleton, k0_part3_eq_skeleton]
  unfold owns
  iintro ⟨⟨%f0, %hf0, H0⟩, ⟨%f1, %hf1, H1⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1
  sl_exec (disch := first | sl_exact hf)
  sl_unfold_run_names
  rw [load_img0, load_img1, load_img2, load_img3, load_whole harg2, load_cols harg9, View.readCov_full]
  iapply Hk
  isplitl [H0]
  · iexists _; isplitr; · ipureintro; exact harg1.read_unread _
    iexact H0
  isplitl [H1]
  · iexists _; isplitr; · ipureintro; exact harg2.read_unread _
    iexact H1
  isplitl [H7]
  · iexists _; isplitr; swap; · iexact H7
    ipureintro; exact View.read_writes_full ..
  isplitl [H8]
  · iexists _; isplitr; swap; · iexact H8
    ipureintro; exact View.read_writes_full ..
  isplitl [H9]
  · iexists _, _; isplitr; swap; · iexact H9
    ipureintro; rfl
  iexists _; isplitr; swap; · iexact H10
  ipureintro; exact View.read_writes_full ..

/-- The first stretch at a later point: the scratch's codebook rows `a` are multiplied with the point's columns. -/
theorem stretch1_later (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hf : ¬first i) (x : Vec F S4x64x1024 .f32) (a : Vec F S1024x64 .f32) (E : Set ℕ) (K : PUnit → sProp 𝕄)
    (k : FVec F S1024x4096 .f32 → FVec F S1024x4096 .f32 → Prog (TpuEff nD τ sig (Elt F) Λ₀ .tc) PUnit) :
    iprop(owns (c : Thread nD τ) arg1 fullShare x ∗ owns (c : Thread nD τ) arg7 fullShare a ∗ (∃ d, owns (c : Thread nD τ) arg9 fullShare d)
        ∗ (iprop(owns (c : Thread nD τ) arg1 fullShare x ∗ owns (c : Thread nD τ) arg7 fullShare a
            ∗ (∃ d, owns (c : Thread nD τ) arg9 fullShare d))
          -∗ wp frame (wpE (defs₀ (F := F)) Variants.none c none) E (k (prods a x) (norms x)) K))
      ⊢ wp frame (wpE (defs₀ (F := F)) Variants.none c none) E (do
          let ⟨_, v18, v34⟩ ← k0_part2 i arg1 harg1 arg2 harg2 arg3 harg3 arg4 harg4 arg5 harg5 arg6 harg6 arg7 harg7 arg8 harg8 arg9 harg9 arg10 harg10
          let ⟨v72, v73⟩ ← k0_part3 i arg1 harg1 arg2 harg2 arg3 harg3 arg4 harg4 arg5 harg5 arg6 harg6 arg7 harg7 arg8 harg8 arg9 harg9 arg10 harg10 v18 v34
          k v72 v73) K := by
  simp only [k0_part2_eq_skeleton, k0_part3_eq_skeleton]
  unfold owns
  iintro ⟨⟨%f0, %hf0, H0⟩, ⟨%f7, %hf7, H7⟩, ⟨%d9, %f9, -, H9⟩, Hk⟩
  obtain rfl := harg1.eq_unread hf0; obtain rfl := harg7.eq_unread hf7
  sl_exec (disch := first | sl_exact hf)
  sl_unfold_run_names
  rw [load_img0, load_img1, load_img2, load_img3, load_whole harg7, load_cols harg9]
  iapply Hk
  isplitl [H0]
  · iexists _; isplitr; · ipureintro; exact harg1.read_unread _
    iexact H0
  isplitl [H7]
  · iexists _; isplitr; · ipureintro; exact harg7.read_unread _
    iexact H7
  iexists _, _; isplitr; swap; · iexact H9
  ipureintro; rfl

/-- The second stretch at a point where no column has two nearest rows: the two blocks of results are written, and the
    first image's share of the sum is returned. -/
theorem stretch2_unique (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (x : Vec F S4x64x1024 .f32) (g : Vec F S72x1024 .f32) (se : Vec F S1024x1 .f32) (v72 v73 : FVec F S1024x4096 .f32)
    (ht : ¬ties v72 v73 se g) (E : Set ℕ) (K : PUnit → sProp 𝕄) (k : FVec F S1x1 .f32 → Prog (TpuEff nD τ sig (Elt F) Λ₀ .tc) PUnit) :
    iprop(owns (c : Thread nD τ) arg1 fullShare x ∗ owns (c : Thread nD τ) arg3 fullShare g
        ∗ (∃ d, owns (c : Thread nD τ) arg4 fullShare d) ∗ (∃ d, owns (c : Thread nD τ) arg5 fullShare d)
        ∗ owns (c : Thread nD τ) arg8 fullShare se
        ∗ (iprop(owns (c : Thread nD τ) arg1 fullShare x ∗ owns (c : Thread nD τ) arg3 fullShare g
            ∗ owns (c : Thread nD τ) arg4 fullShare (imagesOf (k0_pay29 v72 v73 se g)) ∗ owns (c : Thread nD τ) arg5 fullShare (rowsOf (k0_pay31 v72 v73 se g))
            ∗ owns (c : Thread nD τ) arg8 fullShare se)
          -∗ wp frame (wpE (defs₀ (F := F)) Variants.none c none) E (k (k0_pay45 (img (imagesOf (k0_pay29 v72 v73 se g)) 0) (img x 0))) K))
      ⊢ wp frame (wpE (defs₀ (F := F)) Variants.none c none) E (do
          let ⟨v77, v79, v87, v89, v90, v107, v108⟩ ← k0_part4 i arg1 harg1 arg2 harg2 arg3 harg3 arg4 harg4 arg5 harg5 arg6 harg6 arg7 harg7 arg8 harg8 arg9 harg9 arg10 harg10 v72 v73
          let v142 ← k0_part5 i arg1 harg1 arg2 harg2 arg3 harg3 arg4 harg4 arg5 harg5 arg6 harg6 arg7 harg7 arg8 harg8 arg9 harg9 arg10 harg10 v77 v79 v87 v89 v90 v107 v108
          k v142) K := by
  simp only [k0_part4_eq_skeleton, k0_part5_eq_skeleton]
  unfold owns
  iintro ⟨⟨%f0, %hf0, H0⟩, ⟨%f3, %hf3, H3⟩, ⟨%d4, %f4, -, H4⟩, ⟨%d5, %f5, -, H5⟩, ⟨%f8, %hf8, H8⟩, Hk⟩
  obtain rfl := harg1.eq_unread hf0; obtain rfl := harg3.eq_unread hf3; obtain rfl := harg8.eq_unread hf8
  unfold ties at ht
  sl_exec (disch := first | (sl_unfold_run_names; rw [load_whole harg3, load_whole harg8]; sl_exact ht))
  sl_unfold_run_names
  rw [load_whole harg3, load_whole harg8]
  have q0 : k0_pay32 v72 v73 se g = img (imagesOf (k0_pay29 v72 v73 se g)) 0 := slice_images (k0_pay29 v72 v73 se g) 0 rfl slices_S64x4096_o0_0_S64x1024 shapeCasts_S64x1024_S1x64x1024
  have q1 : k0_pay34 v72 v73 se g = img (imagesOf (k0_pay29 v72 v73 se g)) 1 := slice_images (k0_pay29 v72 v73 se g) 1 rfl slices_S64x4096_o0_1024_S64x1024 shapeCasts_S64x1024_S1x64x1024
  have q2 : k0_pay37 (k0_pay36 v72 v73 se g) = img (imagesOf (k0_pay29 v72 v73 se g)) 2 := slice_images (k0_pay29 v72 v73 se g) 2 rfl slices_S64x4096_o0_2048_S64x1024 shapeCasts_S64x1024_S1x64x1024
  have q3 : k0_pay39 (k0_pay29 v72 v73 se g) = img (imagesOf (k0_pay29 v72 v73 se g)) 3 := slice_images (k0_pay29 v72 v73 se g) 3 rfl slices_S64x4096_o0_3072_S64x1024 shapeCasts_S64x1024_S1x64x1024
  have r0 : k0_pay33 v72 v73 se g = row (F := F) (rowsOf (k0_pay31 v72 v73 se g)) 0 := slice_rows (k0_pay31 v72 v73 se g) 0 rfl slices_S1x4096_o0_0_S1x1024 shapeCasts_S1x1024_S1x1x1024
  have r1 : k0_pay35 v72 v73 se g = row (F := F) (rowsOf (k0_pay31 v72 v73 se g)) 1 := slice_rows (k0_pay31 v72 v73 se g) 1 rfl slices_S1x4096_o0_1024_S1x1024 shapeCasts_S1x1024_S1x1x1024
  have r2 : k0_pay38 (k0_pay31 v72 v73 se g) = row (F := F) (rowsOf (k0_pay31 v72 v73 se g)) 2 := slice_rows (k0_pay31 v72 v73 se g) 2 rfl slices_S1x4096_o0_2048_S1x1024 shapeCasts_S1x1024_S1x1x1024
  have r3 : k0_pay40 (k0_pay31 v72 v73 se g) = row (F := F) (rowsOf (k0_pay31 v72 v73 se g)) 3 := slice_rows (k0_pay31 v72 v73 se g) 3 rfl slices_S1x4096_o0_3072_S1x1024 shapeCasts_S1x1024_S1x1x1024
  rw [q0, q1, q2, q3, r0, r1, r2, r3]
  rw [load_stored harg4, load_img0 harg1, stored_images harg4, stored_rows harg5]
  iapply Hk
  isplitl [H0]
  · iexists _; isplitr; · ipureintro; exact harg1.read_unread _
    iexact H0
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact harg8.read_unread _
  iexact H8

/-- The second stretch at a point where some column has two nearest rows: the least row is taken, the two blocks of results are written, and the
    first image's share of the sum is returned. -/
theorem stretch2_ties (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (x : Vec F S4x64x1024 .f32) (g : Vec F S72x1024 .f32) (se : Vec F S1024x1 .f32) (v72 v73 : FVec F S1024x4096 .f32)
    (ht : ties v72 v73 se g) (E : Set ℕ) (K : PUnit → sProp 𝕄) (k : FVec F S1x1 .f32 → Prog (TpuEff nD τ sig (Elt F) Λ₀ .tc) PUnit) :
    iprop(owns (c : Thread nD τ) arg1 fullShare x ∗ owns (c : Thread nD τ) arg3 fullShare g
        ∗ (∃ d, owns (c : Thread nD τ) arg4 fullShare d) ∗ (∃ d, owns (c : Thread nD τ) arg5 fullShare d)
        ∗ owns (c : Thread nD τ) arg8 fullShare se
        ∗ (iprop(owns (c : Thread nD τ) arg1 fullShare x ∗ owns (c : Thread nD τ) arg3 fullShare g
            ∗ owns (c : Thread nD τ) arg4 fullShare (imagesOf (k0_pay4 (k0_pay26 v72 v73 se) (k0_pay27 v72 v73 se) g)) ∗ owns (c : Thread nD τ) arg5 fullShare (rowsOf (k0_pay3 (k0_pay26 v72 v73 se) (k0_pay27 v72 v73 se)))
            ∗ owns (c : Thread nD τ) arg8 fullShare se)
          -∗ wp frame (wpE (defs₀ (F := F)) Variants.none c none) E (k (k0_pay45 (img (imagesOf (k0_pay4 (k0_pay26 v72 v73 se) (k0_pay27 v72 v73 se) g)) 0) (img x 0))) K))
      ⊢ wp frame (wpE (defs₀ (F := F)) Variants.none c none) E (do
          let ⟨v77, v79, v87, v89, v90, v107, v108⟩ ← k0_part4 i arg1 harg1 arg2 harg2 arg3 harg3 arg4 harg4 arg5 harg5 arg6 harg6 arg7 harg7 arg8 harg8 arg9 harg9 arg10 harg10 v72 v73
          let v142 ← k0_part5 i arg1 harg1 arg2 harg2 arg3 harg3 arg4 harg4 arg5 harg5 arg6 harg6 arg7 harg7 arg8 harg8 arg9 harg9 arg10 harg10 v77 v79 v87 v89 v90 v107 v108
          k v142) K := by
  simp only [k0_part4_eq_skeleton, k0_part5_eq_skeleton]
  unfold owns
  iintro ⟨⟨%f0, %hf0, H0⟩, ⟨%f3, %hf3, H3⟩, ⟨%d4, %f4, -, H4⟩, ⟨%d5, %f5, -, H5⟩, ⟨%f8, %hf8, H8⟩, Hk⟩
  obtain rfl := harg1.eq_unread hf0; obtain rfl := harg3.eq_unread hf3; obtain rfl := harg8.eq_unread hf8
  unfold ties at ht
  sl_exec (disch := first | (sl_unfold_run_names; rw [load_whole harg3, load_whole harg8]; sl_exact ht))
  sl_unfold_run_names
  rw [load_whole harg3, load_whole harg8]
  have q0 : k0_pay5 (k0_pay26 v72 v73 se) (k0_pay27 v72 v73 se) g = img (imagesOf (k0_pay4 (k0_pay26 v72 v73 se) (k0_pay27 v72 v73 se) g)) 0 := slice_images (k0_pay4 (k0_pay26 v72 v73 se) (k0_pay27 v72 v73 se) g) 0 rfl slices_S64x4096_o0_0_S64x1024 shapeCasts_S64x1024_S1x64x1024
  have r0 : k0_pay6 (k0_pay26 v72 v73 se) (k0_pay27 v72 v73 se) = row (F := F) (rowsOf (k0_pay3 (k0_pay26 v72 v73 se) (k0_pay27 v72 v73 se))) 0 := slice_rows (k0_pay3 (k0_pay26 v72 v73 se) (k0_pay27 v72 v73 se)) 0 rfl slices_S1x4096_o0_0_S1x1024 shapeCasts_S1x1024_S1x1x1024
  have q1 : k0_pay7 (k0_pay26 v72 v73 se) (k0_pay27 v72 v73 se) g = img (imagesOf (k0_pay4 (k0_pay26 v72 v73 se) (k0_pay27 v72 v73 se) g)) 1 := slice_images (k0_pay4 (k0_pay26 v72 v73 se) (k0_pay27 v72 v73 se) g) 1 rfl slices_S64x4096_o0_1024_S64x1024 shapeCasts_S64x1024_S1x64x1024
  have r1 : k0_pay8 (k0_pay26 v72 v73 se) (k0_pay27 v72 v73 se) = row (F := F) (rowsOf (k0_pay3 (k0_pay26 v72 v73 se) (k0_pay27 v72 v73 se))) 1 := slice_rows (k0_pay3 (k0_pay26 v72 v73 se) (k0_pay27 v72 v73 se)) 1 rfl slices_S1x4096_o0_1024_S1x1024 shapeCasts_S1x1024_S1x1x1024
  have q2 : k0_pay9 (k0_pay26 v72 v73 se) (k0_pay27 v72 v73 se) g = img (imagesOf (k0_pay4 (k0_pay26 v72 v73 se) (k0_pay27 v72 v73 se) g)) 2 := slice_images (k0_pay4 (k0_pay26 v72 v73 se) (k0_pay27 v72 v73 se) g) 2 rfl slices_S64x4096_o0_2048_S64x1024 shapeCasts_S64x1024_S1x64x1024
  have r2 : k0_pay42 (k0_pay3 (k0_pay26 v72 v73 se) (k0_pay27 v72 v73 se)) = row (F := F) (rowsOf (k0_pay3 (k0_pay26 v72 v73 se) (k0_pay27 v72 v73 se))) 2 := slice_rows (k0_pay3 (k0_pay26 v72 v73 se) (k0_pay27 v72 v73 se)) 2 rfl slices_S1x4096_o0_2048_S1x1024 shapeCasts_S1x1024_S1x1x1024
  have q3 : k0_pay43 (k0_pay4 (k0_pay26 v72 v73 se) (k0_pay27 v72 v73 se) g) = img (imagesOf (k0_pay4 (k0_pay26 v72 v73 se) (k0_pay27 v72 v73 se) g)) 3 := slice_images (k0_pay4 (k0_pay26 v72 v73 se) (k0_pay27 v72 v73 se) g) 3 rfl slices_S64x4096_o0_3072_S64x1024 shapeCasts_S64x1024_S1x64x1024
  have r3 : k0_pay44 (k0_pay3 (k0_pay26 v72 v73 se) (k0_pay27 v72 v73 se)) = row (F := F) (rowsOf (k0_pay3 (k0_pay26 v72 v73 se) (k0_pay27 v72 v73 se))) 3 := slice_rows (k0_pay3 (k0_pay26 v72 v73 se) (k0_pay27 v72 v73 se)) 3 rfl slices_S1x4096_o0_3072_S1x1024 shapeCasts_S1x1024_S1x1x1024
  rw [q0, q1, q2, q3, r0, r1, r2, r3]
  rw [load_stored harg4, load_img0 harg1, stored_images harg4, stored_rows harg5]
  iapply Hk
  isplitl [H0]
  · iexists _; isplitr; · ipureintro; exact harg1.read_unread _
    iexact H0
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact harg8.read_unread _
  iexact H8

/-- The third stretch: the images' shares are added to the running sum, and at the last point the loss is stored. -/
def tail (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (v142 : FVec F S1x1 .f32) : Prog (TpuEff nD τ sig (Elt F) Λ₀ .tc) PUnit := do
  let v180 ← k0_part6 i arg1 harg1 arg2 harg2 arg3 harg3 arg4 harg4 arg5 harg5 arg6 harg6 arg7 harg7 arg8 harg8 arg9 harg9 arg10 harg10 v142
  let v181 : Vec F S1x1 .f32 ← Prog.lift (.load arg10 (Rect.unit (s := S1x1) ![0, 0] S1x1.size inb_S1x1_S1x1_0_0).toLoadRect (View.loadsAt_vmem h_S1x1))
  Prog.lift (.store arg10 (Rect.unit (s := S1x1) ![0, 0] S1x1.size inb_S1x1_S1x1_0_0) (k0_pay1 v180) Finset.univ (View.stores_vmem_bits_univ h_S1x1 rfl) (.inl rfl))
  if k0_h3 : k0_cond3 i = 1#1 then do
    let v187 : Vec F S1x1 .f32 ← Prog.lift (.load arg10 (Rect.unit (s := S1x1) ![0, 0] S1x1.size inb_S1x1_S1x1_0_0).toLoadRect (View.loadsAt_vmem h_S1x1))
    let v196 : Vec F S1x1 .f32 ← Prog.lift (.load arg6 (Rect.unit (s := S1x1) ![0, 0] S1x1.size inb_S1x1_S1x1_0_0).toLoadRect (View.loadsAt_vmem h_S1x1))
    Prog.lift (.store arg6 (Rect.unit (s := S1x1) ![0, 0] S1x1.size inb_S1x1_S1x1_0_0) (k0_pay2 v187) Finset.univ (View.stores_vmem_bits_univ h_S1x1 rfl) (.inl rfl))
    pure ⟨⟩
  else do
    pure ⟨⟩
  pure ⟨⟩

/-- The third stretch at a point that is not the last. -/
theorem stretch3_inner (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hl : ¬k0_cond3 i = 1#1) (x q : Vec F S4x64x1024 .f32) (s : Vec F S1x1 .f32) (E : Set ℕ) (K : PUnit → sProp 𝕄) :
    iprop(owns (c : Thread nD τ) arg1 fullShare x ∗ owns (c : Thread nD τ) arg4 fullShare q ∗ owns (c : Thread nD τ) arg10 fullShare s
        ∗ (iprop(owns (c : Thread nD τ) arg1 fullShare x ∗ owns (c : Thread nD τ) arg4 fullShare q
            ∗ owns (c : Thread nD τ) arg10 fullShare (sumStep q x s)) -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 (k0_pay45 (img q 0) (img x 0))) K := by
  unfold tail
  simp only [k0_part6_eq_skeleton]
  unfold owns
  iintro ⟨⟨%f0, %hf0, H0⟩, ⟨%f4, %hf4, H4⟩, ⟨%f10, %hf10, H10⟩, Hk⟩
  obtain rfl := harg1.eq_unread hf0; obtain rfl := harg4.eq_unread hf4; obtain rfl := harg10.eq_unread hf10
  sl_exec (disch := first | sl_exact hl)
  sl_step
  sl_unfold_run_names
  rw [load_img1 harg1, load_img2 harg1, load_img3 harg1, load_img1 harg4, load_img2 harg4, load_img3 harg4, load_whole harg10]
  iapply Hk
  isplitl [H0]
  · iexists _; isplitr; · ipureintro; exact harg1.read_unread _
    iexact H0
  isplitl [H4]
  · iexists _; isplitr; · ipureintro; exact harg4.read_unread _
    iexact H4
  iexists _; isplitr; swap; · iexact H10
  ipureintro; exact View.read_writes_full ..

/-- The third stretch at the last point. -/
theorem stretch3_last (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hl : k0_cond3 i = 1#1) (x q : Vec F S4x64x1024 .f32) (s : Vec F S1x1 .f32) (E : Set ℕ) (K : PUnit → sProp 𝕄) :
    iprop(owns (c : Thread nD τ) arg1 fullShare x ∗ owns (c : Thread nD τ) arg4 fullShare q
        ∗ (∃ d, owns (c : Thread nD τ) arg6 fullShare d) ∗ owns (c : Thread nD τ) arg10 fullShare s
        ∗ (iprop(owns (c : Thread nD τ) arg1 fullShare x ∗ owns (c : Thread nD τ) arg4 fullShare q
            ∗ owns (c : Thread nD τ) arg6 fullShare (k0_pay2 (sumStep q x s))
            ∗ owns (c : Thread nD τ) arg10 fullShare (sumStep q x s)) -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 (k0_pay45 (img q 0) (img x 0))) K := by
  unfold tail
  simp only [k0_part6_eq_skeleton]
  unfold owns
  iintro ⟨⟨%f0, %hf0, H0⟩, ⟨%f4, %hf4, H4⟩, ⟨%d6, %f6, -, H6⟩, ⟨%f10, %hf10, H10⟩, Hk⟩
  obtain rfl := harg1.eq_unread hf0; obtain rfl := harg4.eq_unread hf4; obtain rfl := harg10.eq_unread hf10
  sl_exec (disch := first | sl_exact hl)
  sl_step
  sl_unfold_run_names
  rw [load_img1 harg1, load_img2 harg1, load_img3 harg1, load_img1 harg4, load_img2 harg4, load_img3 harg4, load_whole harg10, View.readCov_full]
  iapply Hk
  isplitl [H0]
  · iexists _; isplitr; · ipureintro; exact harg1.read_unread _
    iexact H0
  isplitl [H4]
  · iexists _; isplitr; · ipureintro; exact harg4.read_unread _
    iexact H4
  isplitl [H6]
  · iexists _; isplitr; swap; · iexact H6
    ipureintro; exact View.read_writes_full ..
  iexists _; isplitr; swap; · iexact H10
  ipureintro; exact View.read_writes_full ..

/-- The second stretch. -/
theorem stretch2 (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (x : Vec F S4x64x1024 .f32) (g : Vec F S72x1024 .f32) (se : Vec F S1024x1 .f32) (v72 v73 : FVec F S1024x4096 .f32)
    (E : Set ℕ) (K : PUnit → sProp 𝕄) (k : FVec F S1x1 .f32 → Prog (TpuEff nD τ sig (Elt F) Λ₀ .tc) PUnit) :
    iprop(owns (c : Thread nD τ) arg1 fullShare x ∗ owns (c : Thread nD τ) arg3 fullShare g
        ∗ (∃ d, owns (c : Thread nD τ) arg4 fullShare d) ∗ (∃ d, owns (c : Thread nD τ) arg5 fullShare d)
        ∗ owns (c : Thread nD τ) arg8 fullShare se
        ∗ (iprop(owns (c : Thread nD τ) arg1 fullShare x ∗ owns (c : Thread nD τ) arg3 fullShare g
            ∗ owns (c : Thread nD τ) arg4 fullShare (imagesOf (quant v72 v73 se g)) ∗ owns (c : Thread nD τ) arg5 fullShare (rowsOf (nearest v72 v73 se g))
            ∗ owns (c : Thread nD τ) arg8 fullShare se)
          -∗ wp frame (wpE (defs₀ (F := F)) Variants.none c none) E (k (k0_pay45 (img (imagesOf (quant v72 v73 se g)) 0) (img x 0))) K))
      ⊢ wp frame (wpE (defs₀ (F := F)) Variants.none c none) E (do
          let ⟨v77, v79, v87, v89, v90, v107, v108⟩ ← k0_part4 i arg1 harg1 arg2 harg2 arg3 harg3 arg4 harg4 arg5 harg5 arg6 harg6 arg7 harg7 arg8 harg8 arg9 harg9 arg10 harg10 v72 v73
          let v142 ← k0_part5 i arg1 harg1 arg2 harg2 arg3 harg3 arg4 harg4 arg5 harg5 arg6 harg6 arg7 harg7 arg8 harg8 arg9 harg9 arg10 harg10 v77 v79 v87 v89 v90 v107 v108
          k v142) K := by
  by_cases ht : ties v72 v73 se g
  · have hq : quant v72 v73 se g = k0_pay4 (k0_pay26 v72 v73 se) (k0_pay27 v72 v73 se) g := if_pos ht
    have hn : nearest v72 v73 se g = k0_pay3 (k0_pay26 v72 v73 se) (k0_pay27 v72 v73 se) := if_pos ht
    rw [hq, hn]
    exact stretch2_ties c i arg1 harg1 arg2 harg2 arg3 harg3 arg4 harg4 arg5 harg5 arg6 harg6 arg7 harg7 arg8 harg8 arg9 harg9 arg10 harg10 x g se v72 v73 ht E K k
  · have hq : quant v72 v73 se g = k0_pay29 v72 v73 se g := if_neg ht
    have hn : nearest v72 v73 se g = k0_pay31 v72 v73 se g := if_neg ht
    rw [hq, hn]
    exact stretch2_unique c i arg1 harg1 arg2 harg2 arg3 harg3 arg4 harg4 arg5 harg5 arg6 harg6 arg7 harg7 arg8 harg8 arg9 harg9 arg10 harg10 x g se v72 v73 ht E K k

/-- The second and third stretch. -/
def rest (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (v72 v73 : FVec F S1024x4096 .f32) : Prog (TpuEff nD τ sig (Elt F) Λ₀ .tc) PUnit := do
  let ⟨v77, v79, v87, v89, v90, v107, v108⟩ ← k0_part4 i arg1 harg1 arg2 harg2 arg3 harg3 arg4 harg4 arg5 harg5 arg6 harg6 arg7 harg7 arg8 harg8 arg9 harg9 arg10 harg10 v72 v73
  let v142 ← k0_part5 i arg1 harg1 arg2 harg2 arg3 harg3 arg4 harg4 arg5 harg5 arg6 harg6 arg7 harg7 arg8 harg8 arg9 harg9 arg10 harg10 v77 v79 v87 v89 v90 v107 v108
  tail i arg1 harg1 arg2 harg2 arg3 harg3 arg4 harg4 arg5 harg5 arg6 harg6 arg7 harg7 arg8 harg8 arg9 harg9 arg10 harg10 v142

set_option maxRecDepth 65536 in
/-- The body is its three stretches. -/
theorem body_eq (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole) :
    cc0__vq_body (F := F) i arg1 harg1 arg2 harg2 arg3 harg3 arg4 harg4 arg5 harg5 arg6 harg6 arg7 harg7 arg8 harg8 arg9 harg9 arg10 harg10 = (do
      let ⟨_, v18, v34⟩ ← k0_part2 i arg1 harg1 arg2 harg2 arg3 harg3 arg4 harg4 arg5 harg5 arg6 harg6 arg7 harg7 arg8 harg8 arg9 harg9 arg10 harg10
      let ⟨v72, v73⟩ ← k0_part3 i arg1 harg1 arg2 harg2 arg3 harg3 arg4 harg4 arg5 harg5 arg6 harg6 arg7 harg7 arg8 harg8 arg9 harg9 arg10 harg10 v18 v34
      rest i arg1 harg1 arg2 harg2 arg3 harg3 arg4 harg4 arg5 harg5 arg6 harg6 arg7 harg7 arg8 harg8 arg9 harg9 arg10 harg10 v72 v73) := rfl

/-- The second and third stretch at a point that is not the last. -/
theorem rest_inner (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hl : ¬k0_cond3 i = 1#1) (x : Vec F S4x64x1024 .f32) (g : Vec F S72x1024 .f32) (se : Vec F S1024x1 .f32) (s : Vec F S1x1 .f32) (v72 v73 : FVec F S1024x4096 .f32)
    (E : Set ℕ) (K : PUnit → sProp 𝕄) :
    iprop(owns (c : Thread nD τ) arg1 fullShare x ∗ owns (c : Thread nD τ) arg3 fullShare g ∗ (∃ d, owns (c : Thread nD τ) arg4 fullShare d) ∗ (∃ d, owns (c : Thread nD τ) arg5 fullShare d) ∗ owns (c : Thread nD τ) arg8 fullShare se ∗ owns (c : Thread nD τ) arg10 fullShare s
        ∗ (iprop(owns (c : Thread nD τ) arg1 fullShare x ∗ owns (c : Thread nD τ) arg3 fullShare g ∗ owns (c : Thread nD τ) arg4 fullShare (imagesOf (quant v72 v73 se g)) ∗ owns (c : Thread nD τ) arg5 fullShare (rowsOf (nearest v72 v73 se g))
            ∗ owns (c : Thread nD τ) arg8 fullShare se ∗ owns (c : Thread nD τ) arg10 fullShare (sumStep (imagesOf (quant v72 v73 se g)) x s)) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 v72 v73) K := by
  unfold rest
  iintro ⟨H0, H3, H4, H5, H8, H10, Hk⟩
  iapply (stretch2 c i arg1 harg1 arg2 harg2 arg3 harg3 arg4 harg4 arg5 harg5 arg6 harg6 arg7 harg7 arg8 harg8 arg9 harg9 arg10 harg10 x g se v72 v73 E K (tail i arg1 harg1 arg2 harg2 arg3 harg3 arg4 harg4 arg5 harg5 arg6 harg6 arg7 harg7 arg8 harg8 arg9 harg9 arg10 harg10))
  isplitl [H0]; · iexact H0
  isplitl [H3]; · iexact H3
  isplitl [H4]; · iexact H4
  isplitl [H5]; · iexact H5
  isplitl [H8]; · iexact H8
  iintro ⟨H0, H3, H4, H5, H8⟩
  iapply (stretch3_inner c i arg1 harg1 arg2 harg2 arg3 harg3 arg4 harg4 arg5 harg5 arg6 harg6 arg7 harg7 arg8 harg8 arg9 harg9 arg10 harg10 hl x (imagesOf (quant v72 v73 se g)) s E K)
  isplitl [H0]; · iexact H0
  isplitl [H4]; · iexact H4
  isplitl [H10]; · iexact H10
  iintro ⟨H0, H4, H10⟩
  iapply Hk
  isplitl [H0]; · iexact H0
  isplitl [H3]; · iexact H3
  isplitl [H4]; · iexact H4
  isplitl [H5]; · iexact H5
  isplitl [H8]; · iexact H8
  iexact H10

/-- The second and third stretch at the last point. -/
theorem rest_last (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hl : k0_cond3 i = 1#1) (x : Vec F S4x64x1024 .f32) (g : Vec F S72x1024 .f32) (se : Vec F S1024x1 .f32) (s : Vec F S1x1 .f32) (v72 v73 : FVec F S1024x4096 .f32)
    (E : Set ℕ) (K : PUnit → sProp 𝕄) :
    iprop(owns (c : Thread nD τ) arg1 fullShare x ∗ owns (c : Thread nD τ) arg3 fullShare g ∗ (∃ d, owns (c : Thread nD τ) arg4 fullShare d) ∗ (∃ d, owns (c : Thread nD τ) arg5 fullShare d) ∗ (∃ d, owns (c : Thread nD τ) arg6 fullShare d) ∗ owns (c : Thread nD τ) arg8 fullShare se ∗ owns (c : Thread nD τ) arg10 fullShare s
        ∗ (iprop(owns (c : Thread nD τ) arg1 fullShare x ∗ owns (c : Thread nD τ) arg3 fullShare g ∗ owns (c : Thread nD τ) arg4 fullShare (imagesOf (quant v72 v73 se g)) ∗ owns (c : Thread nD τ) arg5 fullShare (rowsOf (nearest v72 v73 se g))
            ∗ owns (c : Thread nD τ) arg6 fullShare (k0_pay2 (sumStep (imagesOf (quant v72 v73 se g)) x s)) ∗ owns (c : Thread nD τ) arg8 fullShare se ∗ owns (c : Thread nD τ) arg10 fullShare (sumStep (imagesOf (quant v72 v73 se g)) x s)) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 v72 v73) K := by
  unfold rest
  iintro ⟨H0, H3, H4, H5, H6, H8, H10, Hk⟩
  iapply (stretch2 c i arg1 harg1 arg2 harg2 arg3 harg3 arg4 harg4 arg5 harg5 arg6 harg6 arg7 harg7 arg8 harg8 arg9 harg9 arg10 harg10 x g se v72 v73 E K (tail i arg1 harg1 arg2 harg2 arg3 harg3 arg4 harg4 arg5 harg5 arg6 harg6 arg7 harg7 arg8 harg8 arg9 harg9 arg10 harg10))
  isplitl [H0]; · iexact H0
  isplitl [H3]; · iexact H3
  isplitl [H4]; · iexact H4
  isplitl [H5]; · iexact H5
  isplitl [H8]; · iexact H8
  iintro ⟨H0, H3, H4, H5, H8⟩
  iapply (stretch3_last c i arg1 harg1 arg2 harg2 arg3 harg3 arg4 harg4 arg5 harg5 arg6 harg6 arg7 harg7 arg8 harg8 arg9 harg9 arg10 harg10 hl x (imagesOf (quant v72 v73 se g)) s E K)
  isplitl [H0]; · iexact H0
  isplitl [H4]; · iexact H4
  isplitl [H6]; · iexact H6
  isplitl [H10]; · iexact H10
  iintro ⟨H0, H4, H6, H10⟩
  iapply Hk
  isplitl [H0]; · iexact H0
  isplitl [H3]; · iexact H3
  isplitl [H4]; · iexact H4
  isplitl [H5]; · iexact H5
  isplitl [H6]; · iexact H6
  isplitl [H8]; · iexact H8
  iexact H10

/-- The body at the first point. -/
theorem body_first (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hf : first i) (hl : ¬k0_cond3 i = 1#1) (x : Vec F S4x64x1024 .f32) (e : Vec F S1024x64 .f32) (g : Vec F S72x1024 .f32)
    (E : Set ℕ) (K : PUnit → sProp 𝕄) :
    iprop(owns (c : Thread nD τ) arg1 fullShare x ∗ owns (c : Thread nD τ) arg2 fullShare e ∗ owns (c : Thread nD τ) arg3 fullShare g ∗ (∃ d, owns (c : Thread nD τ) arg4 fullShare d) ∗ (∃ d, owns (c : Thread nD τ) arg5 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x ∗ owns (c : Thread nD τ) arg2 fullShare e ∗ owns (c : Thread nD τ) arg3 fullShare g ∗ owns (c : Thread nD τ) arg4 fullShare (blockQ (k0_pay11 e) (k0_pay12 e) g x) ∗ owns (c : Thread nD τ) arg5 fullShare (blockI (k0_pay11 e) (k0_pay12 e) g x) ∗ owns (c : Thread nD τ) arg7 fullShare (k0_pay11 e) ∗ owns (c : Thread nD τ) arg8 fullShare (k0_pay12 e) ∗ (∃ d, owns (c : Thread nD τ) arg9 fullShare d) ∗ owns (c : Thread nD τ) arg10 fullShare (sumStep (blockQ (k0_pay11 e) (k0_pay12 e) g x) x k0_pay13)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  rw [body_eq]
  iintro ⟨H0, H2, H3, H4, H5, H7, H8, H9, H10, Hk⟩
  iapply (stretch1_first c i arg1 harg1 arg2 harg2 arg3 harg3 arg4 harg4 arg5 harg5 arg6 harg6 arg7 harg7 arg8 harg8 arg9 harg9 arg10 harg10 hf x e E K (rest i arg1 harg1 arg2 harg2 arg3 harg3 arg4 harg4 arg5 harg5 arg6 harg6 arg7 harg7 arg8 harg8 arg9 harg9 arg10 harg10))
  isplitl [H0]; · iexact H0
  isplitl [H2]; · iexact H2
  isplitl [H7]; · iexact H7
  isplitl [H8]; · iexact H8
  isplitl [H9]; · iexact H9
  isplitl [H10]; · iexact H10
  iintro ⟨H0, H2, H7, H8, H9, H10⟩
  iapply (rest_inner c i arg1 harg1 arg2 harg2 arg3 harg3 arg4 harg4 arg5 harg5 arg6 harg6 arg7 harg7 arg8 harg8 arg9 harg9 arg10 harg10 hl x g (k0_pay12 e) k0_pay13 (prods (k0_pay11 e) x) (norms x) E K)
  isplitl [H0]; · iexact H0
  isplitl [H3]; · iexact H3
  isplitl [H4]; · iexact H4
  isplitl [H5]; · iexact H5
  isplitl [H8]; · iexact H8
  isplitl [H10]; · iexact H10
  iintro ⟨H0, H3, H4, H5, H8, H10⟩
  iapply Hk
  isplitl [H0]; · iexact H0
  isplitl [H2]; · iexact H2
  isplitl [H3]; · iexact H3
  isplitl [H4]; · iexact H4
  isplitl [H5]; · iexact H5
  isplitl [H7]; · iexact H7
  isplitl [H8]; · iexact H8
  isplitl [H9]; · iexact H9
  iexact H10

/-- The body at a point that is neither the first nor the last. -/
theorem body_inner (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hf : ¬first i) (hl : ¬k0_cond3 i = 1#1) (x : Vec F S4x64x1024 .f32) (g : Vec F S72x1024 .f32) (a : Vec F S1024x64 .f32) (se : Vec F S1024x1 .f32) (s : Vec F S1x1 .f32)
    (E : Set ℕ) (K : PUnit → sProp 𝕄) :
    iprop(owns (c : Thread nD τ) arg1 fullShare x ∗ owns (c : Thread nD τ) arg3 fullShare g ∗ (∃ d, owns (c : Thread nD τ) arg4 fullShare d) ∗ (∃ d, owns (c : Thread nD τ) arg5 fullShare d) ∗ owns (c : Thread nD τ) arg7 fullShare a ∗ owns (c : Thread nD τ) arg8 fullShare se ∗ (∃ d, owns (c : Thread nD τ) arg9 fullShare d) ∗ owns (c : Thread nD τ) arg10 fullShare s
        ∗ (iprop(owns (c : Thread nD τ) arg1 fullShare x ∗ owns (c : Thread nD τ) arg3 fullShare g ∗ owns (c : Thread nD τ) arg4 fullShare (blockQ a se g x) ∗ owns (c : Thread nD τ) arg5 fullShare (blockI a se g x) ∗ owns (c : Thread nD τ) arg7 fullShare a ∗ owns (c : Thread nD τ) arg8 fullShare se ∗ (∃ d, owns (c : Thread nD τ) arg9 fullShare d) ∗ owns (c : Thread nD τ) arg10 fullShare (sumStep (blockQ a se g x) x s)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  rw [body_eq]
  iintro ⟨H0, H3, H4, H5, H7, H8, H9, H10, Hk⟩
  iapply (stretch1_later c i arg1 harg1 arg2 harg2 arg3 harg3 arg4 harg4 arg5 harg5 arg6 harg6 arg7 harg7 arg8 harg8 arg9 harg9 arg10 harg10 hf x a E K (rest i arg1 harg1 arg2 harg2 arg3 harg3 arg4 harg4 arg5 harg5 arg6 harg6 arg7 harg7 arg8 harg8 arg9 harg9 arg10 harg10))
  isplitl [H0]; · iexact H0
  isplitl [H7]; · iexact H7
  isplitl [H9]; · iexact H9
  iintro ⟨H0, H7, H9⟩
  iapply (rest_inner c i arg1 harg1 arg2 harg2 arg3 harg3 arg4 harg4 arg5 harg5 arg6 harg6 arg7 harg7 arg8 harg8 arg9 harg9 arg10 harg10 hl x g se s (prods a x) (norms x) E K)
  isplitl [H0]; · iexact H0
  isplitl [H3]; · iexact H3
  isplitl [H4]; · iexact H4
  isplitl [H5]; · iexact H5
  isplitl [H8]; · iexact H8
  isplitl [H10]; · iexact H10
  iintro ⟨H0, H3, H4, H5, H8, H10⟩
  iapply Hk
  isplitl [H0]; · iexact H0
  isplitl [H3]; · iexact H3
  isplitl [H4]; · iexact H4
  isplitl [H5]; · iexact H5
  isplitl [H7]; · iexact H7
  isplitl [H8]; · iexact H8
  isplitl [H9]; · iexact H9
  iexact H10

/-- The body at the last point. -/
theorem body_last (c : Dev nD) (i : grid0.Coords) (arg1 : Memref sig .tc .vmem S4x64x1024 .f32) (harg1 : arg1.IsWhole) (arg2 : Memref sig .tc .vmem S1024x64 .f32) (harg2 : arg2.IsWhole) (arg3 : Memref sig .tc .vmem S72x1024 .f32) (harg3 : arg3.IsWhole) (arg4 : Memref sig .tc .vmem S4x64x1024 .f32) (harg4 : arg4.IsWhole) (arg5 : Memref sig .tc .vmem S4x1x1024 .i32) (harg5 : arg5.IsWhole) (arg6 : Memref sig .tc .vmem S1x1 .f32) (harg6 : arg6.IsWhole) (arg7 : Memref sig .tc .vmem S1024x64 .f32) (harg7 : arg7.IsWhole) (arg8 : Memref sig .tc .vmem S1024x1 .f32) (harg8 : arg8.IsWhole) (arg9 : Memref sig .tc .vmem S64x4096 .f32) (harg9 : arg9.IsWhole) (arg10 : Memref sig .tc .vmem S1x1 .f32) (harg10 : arg10.IsWhole)
    (hf : ¬first i) (hl : k0_cond3 i = 1#1) (x : Vec F S4x64x1024 .f32) (g : Vec F S72x1024 .f32) (a : Vec F S1024x64 .f32) (se : Vec F S1024x1 .f32) (s : Vec F S1x1 .f32)
    (E : Set ℕ) (K : PUnit → sProp 𝕄) :
    iprop(owns (c : Thread nD τ) arg1 fullShare x ∗ owns (c : Thread nD τ) arg3 fullShare g ∗ (∃ d, owns (c : Thread nD τ) arg4 fullShare d) ∗ (∃ d, owns (c : Thread nD τ) arg5 fullShare d) ∗ (∃ d, owns (c : Thread nD τ) arg6 fullShare d) ∗ owns (c : Thread nD τ) arg7 fullShare a ∗ owns (c : Thread nD τ) arg8 fullShare se ∗ (∃ d, owns (c : Thread nD τ) arg9 fullShare d) ∗ owns (c : Thread nD τ) arg10 fullShare s
        ∗ (iprop(owns (c : Thread nD τ) arg1 fullShare x ∗ owns (c : Thread nD τ) arg3 fullShare g ∗ owns (c : Thread nD τ) arg4 fullShare (blockQ a se g x) ∗ owns (c : Thread nD τ) arg5 fullShare (blockI a se g x) ∗ owns (c : Thread nD τ) arg6 fullShare (k0_pay2 (sumStep (blockQ a se g x) x s)) ∗ owns (c : Thread nD τ) arg7 fullShare a ∗ owns (c : Thread nD τ) arg8 fullShare se ∗ (∃ d, owns (c : Thread nD τ) arg9 fullShare d) ∗ owns (c : Thread nD τ) arg10 fullShare (sumStep (blockQ a se g x) x s)) -∗ K ⟨⟩))
      ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K := by
  rw [body_eq]
  iintro ⟨H0, H3, H4, H5, H6, H7, H8, H9, H10, Hk⟩
  iapply (stretch1_later c i arg1 harg1 arg2 harg2 arg3 harg3 arg4 harg4 arg5 harg5 arg6 harg6 arg7 harg7 arg8 harg8 arg9 harg9 arg10 harg10 hf x a E K (rest i arg1 harg1 arg2 harg2 arg3 harg3 arg4 harg4 arg5 harg5 arg6 harg6 arg7 harg7 arg8 harg8 arg9 harg9 arg10 harg10))
  isplitl [H0]; · iexact H0
  isplitl [H7]; · iexact H7
  isplitl [H9]; · iexact H9
  iintro ⟨H0, H7, H9⟩
  iapply (rest_last c i arg1 harg1 arg2 harg2 arg3 harg3 arg4 harg4 arg5 harg5 arg6 harg6 arg7 harg7 arg8 harg8 arg9 harg9 arg10 harg10 hl x g se s (prods a x) (norms x) E K)
  isplitl [H0]; · iexact H0
  isplitl [H3]; · iexact H3
  isplitl [H4]; · iexact H4
  isplitl [H5]; · iexact H5
  isplitl [H6]; · iexact H6
  isplitl [H8]; · iexact H8
  isplitl [H10]; · iexact H10
  iintro ⟨H0, H3, H4, H5, H6, H8, H10⟩
  iapply Hk
  isplitl [H0]; · iexact H0
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Vq

end
-- ==== Proof.Launch.lean ====
/- The launch: what the scratch carries from point to point, the run of the whole program from the body's triple, and
   the claim that the program leaves its arguments and every counter as it found them. The float operations stay
   arbitrary, so the same run serves the program as printed and the program over the extended reals. -/
module

public import proofs.«01_k».proof.Proof.Body
public import Idealize.ShloMosaic.Lib.Pipeline.FrameSuffix
public import Idealize.ShloMosaic.Lib.WordCmp
public import Idealize.ShloMosaic.Lib.Claim

@[expose] public section

set_option maxRecDepth 16384

noncomputable section

namespace Cert.KernelIdeal.Vq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the points, and the memrefs the body is given -/

/-- The body's first condition holds at point 0 only. -/
theorem first_iff : ∀ t : Fin cfg0.N, first (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [first, e0]
    word_cmp
   : ∀ t : Fin grid0.N, first (grid0.coords t) ↔ t.val % 4 = 0)

/-- The body's last condition holds at point 3 only. -/
theorem last_iff : ∀ t : Fin cfg0.N, k0_cond3 (grid0.coords t) = 1#1 ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [k0_cond3, e0]
    word_cmp
   : ∀ t : Fin grid0.N, k0_cond3 (grid0.coords t) = 1#1 ↔ t.val % 4 = 3)

/-- The loss's window is idle before the last point, -/
theorem idle5 : ∀ t : Fin cfg0.N, ¬k0_cond3 (grid0.coords t) = 1#1 → cfg0.idle 5 (grid0.coords t) = true := by decide +kernel
/-- where nothing is written back; -/
theorem noFlush5 : ∀ t : Fin cfg0.N, ¬k0_cond3 (grid0.coords t) = 1#1 → (cfg0.win 5).flush t = false := by decide +kernel
/-- at the last point it is not idle. -/
theorem live5 : ∀ t : Fin cfg0.N, k0_cond3 (grid0.coords t) = 1#1 → cfg0.idle 5 (grid0.coords t) = false := by decide +kernel

/-- The four scratch buffers. -/
abbrev sc0 : Memref sig .tc .vmem S1024x64 .f32 := Memref.whole cc0_scratch0
abbrev sc1 : Memref sig .tc .vmem S1024x1 .f32 := Memref.whole cc0_scratch1
abbrev sc2 : Memref sig .tc .vmem S64x4096 .f32 := Memref.whole cc0_scratch2
abbrev sc3 : Memref sig .tc .vmem S1x1 .f32 := Memref.whole cc0_scratch3

/-- What the launch hands the region: the four scratch buffers at anything. -/
theorem scratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What the scratch and the outputs hold -/

/-- The first point. -/
def p0 : Fin cfg0.N := ⟨0, by rw [show cfg0.N = 4 from N_0]; decide⟩

/-- The normalised codebook, as the first point leaves it in the scratch. -/
def codes (c : Dev nD) : Vec F S1024x64 .f32 := k0_pay11 (iblk m c 1 p0)

/-- Its rows' sums of squares. -/
def codeNorms (c : Dev nD) : Vec F S1024x1 .f32 := k0_pay12 (iblk m c 1 p0)

/-- The block of chosen rows point `t` writes. -/
def outQ (c : Dev nD) (t : Fin cfg0.N) : Vec F S4x64x1024 .f32 := blockQ (codes m c) (codeNorms m c) (iblk m c 2 t) (iblk m c 0 t)

/-- The block of chosen rows' numbers point `t` writes. -/
def outI (c : Dev nD) (t : Fin cfg0.N) : Vec F S4x1x1024 .i32 := blockI (codes m c) (codeNorms m c) (iblk m c 2 t) (iblk m c 0 t)

/-- The running sum after point `n`. -/
def sumAt (c : Dev nD) : (n : ℕ) → n < cfg0.N → Vec F S1x1 .f32
  | 0, h => sumStep (outQ m c ⟨0, h⟩) (iblk m c 0 ⟨0, h⟩) k0_pay13
  | n + 1, h => sumStep (outQ m c ⟨n + 1, h⟩) (iblk m c 0 ⟨n + 1, h⟩) (sumAt c n (Nat.lt_of_succ_lt h))

/-- The scratch before point `n`: at anything before the first, afterwards the codebook, its norms and the sum. -/
def scratchAt (c : Dev nD) : (n : ℕ) → n ≤ cfg0.N → sProp 𝕄
  | 0, _ => Pipeline.ΦA spec0 c
  | n + 1, hn => iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c n hn)) ∗ (∃ r, prngReg c r))

/-- The run's proof data: each input's buffer keeps its block, the outputs hold the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outQ m c t
    | ⟨4, _⟩ => outI m c t
    | ⟨5, _⟩ => k0_pay2 (sumAt m c t.val t.isLt)
  Φ t := scratchAt m c t.val (Nat.le_of_lt_succ t.isLt)
  q _ := fullShare
  owed _ := 0

/-- The arrays are those the region finds. -/
theorem A_eq (c : Dev nD) (w : Fin cfg0.W) : (dats m 0 c).A w = V m c (Pipeline.arrRef spec0 w) := by
  dsimp only [dats]

/-- The scratch at a point's start. -/
theorem Phi_start (c : Dev nD) (t : Fin cfg0.N) :
    (dats m 0 c).Φ t.castSucc = scratchAt m c t.val (Nat.le_of_lt t.isLt) := by
  dsimp only [dats]; exact Pipeline.Dat.Φ_castSucc (scratchAt m c) t

/-- What the body leaves in window 0, -/
theorem after0 (c : Dev nD) (t : Fin cfg0.N) : (dats m 0 c).after 0 t = iblk m c 0 t := by dsimp only [dats]
/-- in window 1, -/
theorem after1 (c : Dev nD) (t : Fin cfg0.N) : (dats m 0 c).after 1 t = iblk m c 1 t := by dsimp only [dats]
/-- in window 2, -/
theorem after2 (c : Dev nD) (t : Fin cfg0.N) : (dats m 0 c).after 2 t = iblk m c 2 t := by dsimp only [dats]
/-- in window 3, -/
theorem after3 (c : Dev nD) (t : Fin cfg0.N) : (dats m 0 c).after 3 t = outQ m c t := by dsimp only [dats]
/-- in window 4, -/
theorem after4 (c : Dev nD) (t : Fin cfg0.N) : (dats m 0 c).after 4 t = outI m c t := by dsimp only [dats]
/-- in window 5. -/
theorem after5 (c : Dev nD) (t : Fin cfg0.N) : (dats m 0 c).after 5 t = k0_pay2 (sumAt m c t.val t.isLt) := by dsimp only [dats]

/-- A window that is never idle is left at `after`. -/
theorem leaves (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-! ## The body at a point -/

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at the first point. -/
theorem at_first (c : Dev nD) (t : Fin cfg0.N) (hz : t.val = 0) :
    pre m c t ⊢ wp frame (wpE (defs₀ (F := F)) Variants.none c none) Set.univ (bodyAt0 t) (fun _ => post m c t) := by
  have hN : t.val < 4 := lt_of_lt_of_eq t.isLt (show cfg0.N = 4 from N_0)
  have hf : first (grid0.coords t) := (first_iff t).mpr (by omega)
  have hl : ¬k0_cond3 (grid0.coords t) = 1#1 := fun h => by have := (last_iff t).mp h; omega
  obtain rfl : t = p0 := Fin.ext hz
  unfold pre post bodyAt0
  simp only [before0_0_of m (dats m 0 c) (A_eq m c 0) (after0 m c), before0_1_of m (dats m 0 c) (A_eq m c 1) (after1 m c),
    before0_2_of m (dats m 0 c) (A_eq m c 2) (after2 m c)]
  rw [leaves m c 0 _ rfl, leaves m c 1 _ rfl, leaves m c 2 _ rfl, leaves m c 3 _ rfl, leaves m c 4 _ rfl, after0, after1, after2, after3, after4,
    Dat.leavesExact_idle (dats m 0 c) 5 _ (idle5 _ hl) (noFlush5 _ hl), Phi_start]
  rw [show (dats m 0 c).owesAt () (Fin.succ p0) = (dats m 0 c).owesAt () (Fin.castSucc p0) from rfl]
  rw [show (dats m 0 c).Φ (Fin.succ p0) = iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c p0.val p0.isLt)) ∗ (∃ r, prngReg c r)) from rfl,
    show scratchAt m c p0.val (Nat.le_of_lt p0.isLt) = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_first c (grid0.coords p0) (st0_0 p0) (hstage0_0 ((cfg0.slots p0 0).cast nbuf0_0)) (st0_1 p0) (hstage0_1 ((cfg0.slots p0 1).cast nbuf0_1)) (st0_2 p0) (hstage0_2 ((cfg0.slots p0 2).cast nbuf0_2)) (st0_3 p0) (hstage0_3 ((cfg0.slots p0 3).cast nbuf0_3)) (st0_4 p0) (hstage0_4 ((cfg0.slots p0 4).cast nbuf0_4)) (st0_5 p0) (hstage0_5 ((cfg0.slots p0 5).cast nbuf0_5)) sc0 (Memref.isWhole_whole _) sc1 (Memref.isWhole_whole _) sc2 (Memref.isWhole_whole _) sc3 (Memref.isWhole_whole _) hf hl (iblk m c 0 p0) (iblk m c 1 p0) (iblk m c 2 p0) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The body at a point that is neither the first nor the last. -/
theorem at_inner (c : Dev nD) (t : Fin cfg0.N) (hz : t.val ≠ 0) (hl : t.val ≠ 3) :
    pre m c t ⊢ wp frame (wpE (defs₀ (F := F)) Variants.none c none) Set.univ (bodyAt0 t) (fun _ => post m c t) := by
  have hN : t.val < 4 := lt_of_lt_of_eq t.isLt (show cfg0.N = 4 from N_0)
  have hf : ¬first (grid0.coords t) := fun h => by have := (first_iff t).mp h; omega
  have hl : ¬k0_cond3 (grid0.coords t) = 1#1 := fun h => by have := (last_iff t).mp h; omega
  obtain ⟨n, hn⟩ := t
  obtain ⟨n, rfl⟩ : ∃ k, n = k + 1 := ⟨n - 1, by dsimp only at hz; omega⟩
  unfold pre post bodyAt0
  simp only [before0_0_of m (dats m 0 c) (A_eq m c 0) (after0 m c), before0_1_of m (dats m 0 c) (A_eq m c 1) (after1 m c),
    before0_2_of m (dats m 0 c) (A_eq m c 2) (after2 m c)]
  rw [leaves m c 0 _ rfl, leaves m c 1 _ rfl, leaves m c 2 _ rfl, leaves m c 3 _ rfl, leaves m c 4 _ rfl, after0, after1, after2, after3, after4,
    Dat.leavesExact_idle (dats m 0 c) 5 _ (idle5 _ hl) (noFlush5 _ hl), Phi_start]
  rw [show (dats m 0 c).owesAt () (Fin.succ ⟨n + 1, hn⟩) = (dats m 0 c).owesAt () (Fin.castSucc ⟨n + 1, hn⟩) from rfl]
  rw [show (dats m 0 c).Φ (Fin.succ ⟨n + 1, hn⟩) = iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c (n + 1) hn)) ∗ (∃ r, prngReg c r)) from rfl,
    show scratchAt m c (n + 1) (Nat.le_of_lt hn) = iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c n (Nat.lt_of_succ_lt hn))) ∗ (∃ r, prngReg c r)) from rfl]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_inner c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (st0_2 ⟨n + 1, hn⟩) (hstage0_2 ((cfg0.slots ⟨n + 1, hn⟩ 2).cast nbuf0_2)) (st0_3 ⟨n + 1, hn⟩) (hstage0_3 ((cfg0.slots ⟨n + 1, hn⟩ 3).cast nbuf0_3)) (st0_4 ⟨n + 1, hn⟩) (hstage0_4 ((cfg0.slots ⟨n + 1, hn⟩ 4).cast nbuf0_4)) (st0_5 ⟨n + 1, hn⟩) (hstage0_5 ((cfg0.slots ⟨n + 1, hn⟩ 5).cast nbuf0_5)) sc0 (Memref.isWhole_whole _) sc1 (Memref.isWhole_whole _) sc2 (Memref.isWhole_whole _) sc3 (Memref.isWhole_whole _) hf hl (iblk m c 0 ⟨n + 1, hn⟩) (iblk m c 2 ⟨n + 1, hn⟩) (codes m c) (codeNorms m c) (sumAt m c n (Nat.lt_of_succ_lt hn)) Set.univ _)
  isplitl [H0]; · iexact H0
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The body at the last point. -/
theorem at_last (c : Dev nD) (t : Fin cfg0.N) (hz : t.val = 3) :
    pre m c t ⊢ wp frame (wpE (defs₀ (F := F)) Variants.none c none) Set.univ (bodyAt0 t) (fun _ => post m c t) := by
  have hN : t.val < 4 := lt_of_lt_of_eq t.isLt (show cfg0.N = 4 from N_0)
  have hf : ¬first (grid0.coords t) := fun h => by have := (first_iff t).mp h; omega
  have hl : k0_cond3 (grid0.coords t) = 1#1 := (last_iff t).mpr (by omega)
  obtain ⟨n, hn⟩ := t
  obtain ⟨n, rfl⟩ : ∃ k, n = k + 1 := ⟨n - 1, by dsimp only at hz; omega⟩
  unfold pre post bodyAt0
  simp only [before0_0_of m (dats m 0 c) (A_eq m c 0) (after0 m c), before0_1_of m (dats m 0 c) (A_eq m c 1) (after1 m c),
    before0_2_of m (dats m 0 c) (A_eq m c 2) (after2 m c)]
  rw [leaves m c 0 _ rfl, leaves m c 1 _ rfl, leaves m c 2 _ rfl, leaves m c 3 _ rfl, leaves m c 4 _ rfl, after0, after1, after2, after3, after4,
    leaves m c 5 _ (live5 _ hl), after5, Phi_start]
  rw [show (dats m 0 c).owesAt () (Fin.succ ⟨n + 1, hn⟩) = (dats m 0 c).owesAt () (Fin.castSucc ⟨n + 1, hn⟩) from rfl]
  rw [show (dats m 0 c).Φ (Fin.succ ⟨n + 1, hn⟩) = iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c (n + 1) hn)) ∗ (∃ r, prngReg c r)) from rfl,
    show scratchAt m c (n + 1) (Nat.le_of_lt hn) = iprop(iprop(owns (c : Thread nD τ) sc0 fullShare (codes m c) ∗ owns (c : Thread nD τ) sc1 fullShare (codeNorms m c)
      ∗ (∃ d, owns (c : Thread nD τ) sc2 fullShare d) ∗ owns (c : Thread nD τ) sc3 fullShare (sumAt m c n (Nat.lt_of_succ_lt hn))) ∗ (∃ r, prngReg c r)) from rfl]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (body_last c (grid0.coords ⟨n + 1, hn⟩) (st0_0 ⟨n + 1, hn⟩) (hstage0_0 ((cfg0.slots ⟨n + 1, hn⟩ 0).cast nbuf0_0)) (st0_1 ⟨n + 1, hn⟩) (hstage0_1 ((cfg0.slots ⟨n + 1, hn⟩ 1).cast nbuf0_1)) (st0_2 ⟨n + 1, hn⟩) (hstage0_2 ((cfg0.slots ⟨n + 1, hn⟩ 2).cast nbuf0_2)) (st0_3 ⟨n + 1, hn⟩) (hstage0_3 ((cfg0.slots ⟨n + 1, hn⟩ 3).cast nbuf0_3)) (st0_4 ⟨n + 1, hn⟩) (hstage0_4 ((cfg0.slots ⟨n + 1, hn⟩ 4).cast nbuf0_4)) (st0_5 ⟨n + 1, hn⟩) (hstage0_5 ((cfg0.slots ⟨n + 1, hn⟩ 5).cast nbuf0_5)) sc0 (Memref.isWhole_whole _) sc1 (Memref.isWhole_whole _) sc2 (Memref.isWhole_whole _) sc3 (Memref.isWhole_whole _) hf hl (iblk m c 0 ⟨n + 1, hn⟩) (iblk m c 2 ⟨n + 1, hn⟩) (codes m c) (codeNorms m c) (sumAt m c n (Nat.lt_of_succ_lt hn)) Set.univ _)
  isplitl [H0]; · iexact H0
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H2, H3, H4, H5, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem at_point (c : Dev nD) (t : Fin cfg0.N) :
    pre m c t ⊢ wp frame (wpE (defs₀ (F := F)) Variants.none c none) Set.univ (bodyAt0 t) (fun _ => post m c t) := by
  by_cases hz : t.val = 0
  · exact at_first m c t hz
  by_cases hl : t.val = 3
  · exact at_last m c t hl
  exact at_inner m c t hz hl

/-- The body table's row is the body. -/
theorem row_eq (t : Fin cfg0.N) :
    defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row_eq]
  exact triple_restated (at_point m c t) rfl .rfl fun _ => .rfl

/-- What the launch hands the region is the scratch before the first point. -/
theorem scratch_in (c : Dev nD) : Pipeline.ΦA spec0 c ⊢ (dats m 0 c).Φ 0 :=
  Idealize.SL.BI.Entails.refl _

/-- After the last point the scratch's contents are forgotten. -/
theorem scratch_out (c : Dev nD) : (dats m 0 c).Φ (Fin.last cfg0.N) ⊢ Pipeline.ΦA spec0 c := by
  have hN : cfg0.N = 3 + 1 := N_0
  have key : ∀ n (h : n ≤ cfg0.N), n ≠ 0 → scratchAt m c n h ⊢ Pipeline.ΦA spec0 c := by
    intro n h hz
    obtain ⟨n, rfl⟩ : ∃ k, n = k + 1 := ⟨n - 1, by omega⟩
    rw [scratch_eq]
    unfold scratchAt
    iintro ⟨⟨HS0, HS1, HS2, HS3⟩, Hg⟩
    isplitl [HS0 HS1 HS2 HS3]
    · isplitl [HS0]; · iexists _; iexact HS0
      isplitl [HS1]; · iexists _; iexact HS1
      isplitl [HS2]; · iexact HS2
      iexists _; iexact HS3
    iexact Hg
  exact key (Fin.last cfg0.N).val _ (by rw [Fin.val_last]; omega)

/-! ## The run and the frame -/

set_option backward.isDefEq.respectTransparency.types false in
set_option maxHeartbeats 800000 in
/-- Every run of the program ends with the arrays at what the proof data say and every counter at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := scratch_in m) (hout := scratch_out m)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Vq

end
-- ==== Proof.Printed.lean ====
/- The program as printed is, definition by definition, the program read over the extended reals with its floats read
   as words: so the run of the one is the run of the other, and the frame carries over. -/
module

public import proofs.«01_k».proof.Proof.Launch
public import proofs.«01_k».proof.Proof.Gen.Kernel
public import proofs.«01_k».proof.Proof.Gen.KernelIdeal
public import Idealize.ShloMosaic.PureOps.BitExact

@[expose] public section

noncomputable section

namespace Cert.Kernel.Vq

open Idealize.ShloMosaic Idealize.SL.Sem

/-- The two texts' body tables agree. -/
theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- So do their definitions' tables. -/
theorem defs_eq : Cert.Kernel.defs (F := Bits) = Cert.KernelIdeal.defs (F := Bits) :=
  congrArg (Pipeline.defs (Cert.KernelIdeal.pcfgs (F := Bits))) table_eq

/-- Every run of the program as printed ends with the arguments unchanged and every counter at zero. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  defs_eq ▸ Cert.KernelIdeal.Vq.frame (F := Bits) m ρ

end Cert.Kernel.Vq

end
-- ==== Proof.Reference.lean ====
/-
  The reference as one list of operations, cut into stages, and its run: the reference
  ends, leaves its arguments as they were, and every buffer of the end holds what the list computes.
-/
module

public import proofs.«01_k».proof.Proof.Gen.ReferenceIdeal
public import Idealize.ShloMosaic.Lib.Claim
public import Idealize.ShloMosaic.Lib.StableHlo.RunRead
public import Idealize.ShloMosaic.Lib.Quiescent

@[expose] public section

set_option maxRecDepth 16384

noncomputable section

namespace Cert.ReferenceIdeal.Vq

open Idealize.ShloMosaic Idealize.SL.Sem Idealize.ShloMosaic.StableHlo
open Cert.ReferenceIdeal Cert.ReferenceIdeal.Facts₀ Cert.ReferenceIdeal.Facts

variable {F : FTy → Type} [FloatOps F]

/-- The images laid out as 16384 rows of 64 entries. -/
def rowOps : List (HloOp τ sig (Elt F)) := [
  StableHlo.unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
  StableHlo.reshape main_v0 main_v1 (rfl : (.f32 : EltTy) = .f32) shapeCasts_S16x32x32x64_S16384x64]

/-- Every row divided by its length, the length kept above a small constant. -/
def unitRowOps : List (HloOp τ sig (Elt F)) := [
  StableHlo.binary main_v1 main_v1 main_call0_v0 (mulf : (⟨S16384x64, .f32⟩ : BufTy).Contents (Elt F) → (⟨S16384x64, .f32⟩ : BufTy).Contents (Elt F) → (⟨S16384x64, .f32⟩ : BufTy).Contents (Elt F)),
  StableHlo.nullary main_call0_cst ((constant S_ .f32 0x00000000#32) : (⟨S_, .f32⟩ : BufTy).Contents (Elt F)),
  StableHlo.binary main_call0_v0 main_call0_cst main_call0_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
  StableHlo.unary main_call0_v1 main_call0_v2 ((broadcastInDim S16384x1 ![0] bcast_S16384_S16384x1_0) : (⟨S16384, .f32⟩ : BufTy).Contents (Elt F) → (⟨S16384x1, .f32⟩ : BufTy).Contents (Elt F)),
  StableHlo.unary main_call0_v2 main_v2 (Host.sqrt : (⟨S16384x1, .f32⟩ : BufTy).Contents (Elt F) → (⟨S16384x1, .f32⟩ : BufTy).Contents (Elt F)),
  StableHlo.nullary main_cst (constant S_ .f32 0x2B8CBCCC#32),
  StableHlo.unary main_cst main_call1_v0 (id : (⟨S_, .f32⟩ : BufTy).Contents (Elt F) → (⟨S_, .f32⟩ : BufTy).Contents (Elt F)),
  StableHlo.unary main_call1_v0 main_call1_v1 ((broadcastInDim S16384x1 ![] bcast_S_S16384x1) : (⟨S_, .f32⟩ : BufTy).Contents (Elt F) → (⟨S16384x1, .f32⟩ : BufTy).Contents (Elt F)),
  StableHlo.binary main_call1_v1 main_v2 main_v3 (maximumf : (⟨S16384x1, .f32⟩ : BufTy).Contents (Elt F) → (⟨S16384x1, .f32⟩ : BufTy).Contents (Elt F) → (⟨S16384x1, .f32⟩ : BufTy).Contents (Elt F)),
  StableHlo.unary main_v3 main_v4 (broadcastInDim S16384x64 ![0, 1] bcast_S16384x1_S16384x64_0_1 : (⟨S16384x1, .f32⟩ : BufTy).Contents (Elt F) → (⟨S16384x64, .f32⟩ : BufTy).Contents (Elt F)),
  StableHlo.binary main_v1 main_v4 main_v5 (Host.divf : (⟨S16384x64, .f32⟩ : BufTy).Contents (Elt F) → (⟨S16384x64, .f32⟩ : BufTy).Contents (Elt F) → (⟨S16384x64, .f32⟩ : BufTy).Contents (Elt F))]

/-- Every code divided by its length, the length kept above a small constant. -/
def unitCodeOps : List (HloOp τ sig (Elt F)) := [
  StableHlo.binary main_arg1 main_arg1 main_call2_v0 (mulf : (⟨S1024x64, .f32⟩ : BufTy).Contents (Elt F) → (⟨S1024x64, .f32⟩ : BufTy).Contents (Elt F) → (⟨S1024x64, .f32⟩ : BufTy).Contents (Elt F)),
  StableHlo.nullary main_call2_cst ((constant S_ .f32 0x00000000#32) : (⟨S_, .f32⟩ : BufTy).Contents (Elt F)),
  StableHlo.binary main_call2_v0 main_call2_cst main_call2_v1 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
  StableHlo.unary main_call2_v1 main_call2_v2 ((broadcastInDim S1024x1 ![0] bcast_S1024_S1024x1_0) : (⟨S1024, .f32⟩ : BufTy).Contents (Elt F) → (⟨S1024x1, .f32⟩ : BufTy).Contents (Elt F)),
  StableHlo.unary main_call2_v2 main_v6 (Host.sqrt : (⟨S1024x1, .f32⟩ : BufTy).Contents (Elt F) → (⟨S1024x1, .f32⟩ : BufTy).Contents (Elt F)),
  StableHlo.nullary main_cst_0 (constant S_ .f32 0x2B8CBCCC#32),
  StableHlo.unary main_cst_0 main_call3_v0 (id : (⟨S_, .f32⟩ : BufTy).Contents (Elt F) → (⟨S_, .f32⟩ : BufTy).Contents (Elt F)),
  StableHlo.unary main_call3_v0 main_call3_v1 ((broadcastInDim S1024x1 ![] bcast_S_S1024x1) : (⟨S_, .f32⟩ : BufTy).Contents (Elt F) → (⟨S1024x1, .f32⟩ : BufTy).Contents (Elt F)),
  StableHlo.binary main_call3_v1 main_v6 main_v7 (maximumf : (⟨S1024x1, .f32⟩ : BufTy).Contents (Elt F) → (⟨S1024x1, .f32⟩ : BufTy).Contents (Elt F) → (⟨S1024x1, .f32⟩ : BufTy).Contents (Elt F)),
  StableHlo.unary main_v7 main_v8 (broadcastInDim S1024x64 ![0, 1] bcast_S1024x1_S1024x64_0_1 : (⟨S1024x1, .f32⟩ : BufTy).Contents (Elt F) → (⟨S1024x64, .f32⟩ : BufTy).Contents (Elt F)),
  StableHlo.binary main_arg1 main_v8 main_v9 (Host.divf : (⟨S1024x64, .f32⟩ : BufTy).Contents (Elt F) → (⟨S1024x64, .f32⟩ : BufTy).Contents (Elt F) → (⟨S1024x64, .f32⟩ : BufTy).Contents (Elt F))]

/-- The squared distance of every row to every code, expanded. -/
def distanceOps : List (HloOp τ sig (Elt F)) := [
  StableHlo.binary main_v5 main_v5 main_v10 (mulf : (⟨S16384x64, .f32⟩ : BufTy).Contents (Elt F) → (⟨S16384x64, .f32⟩ : BufTy).Contents (Elt F) → (⟨S16384x64, .f32⟩ : BufTy).Contents (Elt F)),
  StableHlo.nullary main_cst_1 (constant S_ .f32 0x00000000#32),
  StableHlo.binary main_v10 main_cst_1 main_v11 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
  StableHlo.unary main_v11 main_v12 (broadcastInDim S16384x1 ![0] bcast_S16384_S16384x1_0 : (⟨S16384, .f32⟩ : BufTy).Contents (Elt F) → (⟨S16384x1, .f32⟩ : BufTy).Contents (Elt F)),
  StableHlo.nullary main_cst_2 (constant S_ .f32 0x40000000#32),
  StableHlo.unary main_cst_2 main_v13 (broadcastInDim S16384x64 ![] bcast_S_S16384x64 : (⟨S_, .f32⟩ : BufTy).Contents (Elt F) → (⟨S16384x64, .f32⟩ : BufTy).Contents (Elt F)),
  StableHlo.binary main_v13 main_v5 main_v14 (mulf : (⟨S16384x64, .f32⟩ : BufTy).Contents (Elt F) → (⟨S16384x64, .f32⟩ : BufTy).Contents (Elt F) → (⟨S16384x64, .f32⟩ : BufTy).Contents (Elt F)),
  StableHlo.unary main_v9 main_v15 ((transpose S64x1024 [1, 0] · transposes_S1024x64_S64x1024_1_0) : (⟨S1024x64, .f32⟩ : BufTy).Contents (Elt F) → (⟨S64x1024, .f32⟩ : BufTy).Contents (Elt F)),
  StableHlo.binary main_v14 main_v15 main_v16 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
  StableHlo.unary main_v12 main_v17 (broadcastInDim S16384x1024 ![0, 1] bcast_S16384x1_S16384x1024_0_1 : (⟨S16384x1, .f32⟩ : BufTy).Contents (Elt F) → (⟨S16384x1024, .f32⟩ : BufTy).Contents (Elt F)),
  StableHlo.binary main_v17 main_v16 main_v18 (subf : (⟨S16384x1024, .f32⟩ : BufTy).Contents (Elt F) → (⟨S16384x1024, .f32⟩ : BufTy).Contents (Elt F) → (⟨S16384x1024, .f32⟩ : BufTy).Contents (Elt F)),
  StableHlo.binary main_v9 main_v9 main_v19 (mulf : (⟨S1024x64, .f32⟩ : BufTy).Contents (Elt F) → (⟨S1024x64, .f32⟩ : BufTy).Contents (Elt F) → (⟨S1024x64, .f32⟩ : BufTy).Contents (Elt F)),
  StableHlo.nullary main_cst_3 (constant S_ .f32 0x00000000#32),
  StableHlo.binary main_v19 main_cst_3 main_v20 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
  StableHlo.unary main_v20 main_v21 (broadcastInDim S1x1024 ![1] bcast_S1024_S1x1024_1 : (⟨S1024, .f32⟩ : BufTy).Contents (Elt F) → (⟨S1x1024, .f32⟩ : BufTy).Contents (Elt F)),
  StableHlo.unary main_v21 main_v22 (broadcastInDim S16384x1024 ![0, 1] bcast_S1x1024_S16384x1024_0_1 : (⟨S1x1024, .f32⟩ : BufTy).Contents (Elt F) → (⟨S16384x1024, .f32⟩ : BufTy).Contents (Elt F)),
  StableHlo.binary main_v18 main_v22 main_v23 (addf : (⟨S16384x1024, .f32⟩ : BufTy).Contents (Elt F) → (⟨S16384x1024, .f32⟩ : BufTy).Contents (Elt F) → (⟨S16384x1024, .f32⟩ : BufTy).Contents (Elt F))]

/-- The index of the nearest code of every row. -/
def argminOps : List (HloOp τ sig (Elt F)) := [
  StableHlo.nullary main_call4_v0 ((iotaInDim S16384x1024 32 1) : (⟨S16384x1024, .i32⟩ : BufTy).Contents (Elt F)),
  StableHlo.nullary main_call4_cst ((constant S_ .f32 0x7F800000#32) : (⟨S_, .f32⟩ : BufTy).Contents (Elt F)),
  StableHlo.nullary main_call4_c ((constantI S_ 32 0#32) : (⟨S_, .i32⟩ : BufTy).Contents (Elt F)),
  StableHlo.quaternary main_v23 main_call4_v0 main_call4_cst main_call4_c main_call4_v1_0 ((fun x y u v j => (Host.argReduce reducer_argmin_f32_i32 x y u v reducesTo_S16384x1024_S16384_d1 h_S_ j).1) : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .f32⟩ : BufTy).Contents (Elt F)),
  StableHlo.quaternary main_v23 main_call4_v0 main_call4_cst main_call4_c main_v24 ((fun x y u v j => (Host.argReduce reducer_argmin_f32_i32 x y u v reducesTo_S16384x1024_S16384_d1 h_S_ j).2) : (⟨S16384x1024, .f32⟩ : BufTy).Contents (Elt F) → (⟨S16384x1024, .i32⟩ : BufTy).Contents (Elt F) → (⟨S_, .f32⟩ : BufTy).Contents (Elt F) → (⟨S_, .i32⟩ : BufTy).Contents (Elt F) → (⟨S16384, .i32⟩ : BufTy).Contents (Elt F))]

/-- The code at that index, for every row. -/
def takeOps : List (HloOp τ sig (Elt F)) := [
  StableHlo.nullary main_call5_c ((constantI S_ 32 0#32) : (⟨S_, .i32⟩ : BufTy).Contents (Elt F)),
  StableHlo.unary main_call5_c main_call5_v0 ((broadcastInDim S16384 ![] bcast_S_S16384) : (⟨S_, .i32⟩ : BufTy).Contents (Elt F) → (⟨S16384, .i32⟩ : BufTy).Contents (Elt F)),
  StableHlo.binary main_v24 main_call5_v0 main_call5_v1 ((cmpi .slt) : (⟨S16384, .i32⟩ : BufTy).Contents (Elt F) → (⟨S16384, .i32⟩ : BufTy).Contents (Elt F) → (⟨S16384, .i1⟩ : BufTy).Contents (Elt F)),
  StableHlo.nullary main_call5_c_0 ((constantI S_ 32 1024#32) : (⟨S_, .i32⟩ : BufTy).Contents (Elt F)),
  StableHlo.unary main_call5_c_0 main_call5_v2 ((broadcastInDim S16384 ![] bcast_S_S16384) : (⟨S_, .i32⟩ : BufTy).Contents (Elt F) → (⟨S16384, .i32⟩ : BufTy).Contents (Elt F)),
  StableHlo.binary main_v24 main_call5_v2 main_call5_v3 (addi : (⟨S16384, .i32⟩ : BufTy).Contents (Elt F) → (⟨S16384, .i32⟩ : BufTy).Contents (Elt F) → (⟨S16384, .i32⟩ : BufTy).Contents (Elt F)),
  StableHlo.ternary main_call5_v1 main_call5_v3 main_v24 main_call5_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
  StableHlo.unary main_call5_v4 main_call5_v5 ((broadcastInDim S16384x1 ![0] bcast_S16384_S16384x1_0) : (⟨S16384, .i32⟩ : BufTy).Contents (Elt F) → (⟨S16384x1, .i32⟩ : BufTy).Contents (Elt F)),
  StableHlo.nullary main_call5_c_1 ((constantI S1 32 1023#32) : (⟨S1, .i32⟩ : BufTy).Contents (Elt F)),
  StableHlo.nullary main_call5_c_2 ((constantI S_ 32 0#32) : (⟨S_, .i32⟩ : BufTy).Contents (Elt F)),
  StableHlo.unary main_call5_c_2 main_call5_v6 ((broadcastInDim S16384x1 ![] bcast_S_S16384x1) : (⟨S_, .i32⟩ : BufTy).Contents (Elt F) → (⟨S16384x1, .i32⟩ : BufTy).Contents (Elt F)),
  StableHlo.binary main_call5_v5 main_call5_v6 main_call5_v7 ((cmpi .sge) : (⟨S16384x1, .i32⟩ : BufTy).Contents (Elt F) → (⟨S16384x1, .i32⟩ : BufTy).Contents (Elt F) → (⟨S16384x1, .i1⟩ : BufTy).Contents (Elt F)),
  StableHlo.unary main_call5_c_1 main_call5_v8 ((broadcastInDim S1x1 ![1] bcast_S1_S1x1_1) : (⟨S1, .i32⟩ : BufTy).Contents (Elt F) → (⟨S1x1, .i32⟩ : BufTy).Contents (Elt F)),
  StableHlo.unary main_call5_v8 main_call5_v9 ((broadcastInDim S16384x1 ![0, 1] bcast_S1x1_S16384x1_0_1) : (⟨S1x1, .i32⟩ : BufTy).Contents (Elt F) → (⟨S16384x1, .i32⟩ : BufTy).Contents (Elt F)),
  StableHlo.binary main_call5_v5 main_call5_v9 main_call5_v10 ((cmpi .sle) : (⟨S16384x1, .i32⟩ : BufTy).Contents (Elt F) → (⟨S16384x1, .i32⟩ : BufTy).Contents (Elt F) → (⟨S16384x1, .i1⟩ : BufTy).Contents (Elt F)),
  StableHlo.binary main_call5_v7 main_call5_v10 main_call5_v11 (andi : (⟨S16384x1, .i1⟩ : BufTy).Contents (Elt F) → (⟨S16384x1, .i1⟩ : BufTy).Contents (Elt F) → (⟨S16384x1, .i1⟩ : BufTy).Contents (Elt F)),
  StableHlo.nullary main_call5_c_3 ((constantI S_ 1 1#1) : (⟨S_, .i1⟩ : BufTy).Contents (Elt F)),
  StableHlo.binary main_call5_v11 main_call5_c_3 main_call5_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
  StableHlo.binary main_arg1 main_call5_v5 main_call5_v13 ((fun x i => Host.gather gather_S1024x64_S16384x1_S16384x64_1_0_n_n_0_1_164 x i) : (⟨S1024x64, .f32⟩ : BufTy).Contents (Elt F) → (⟨S16384x1, .i32⟩ : BufTy).Contents (Elt F) → (⟨S16384x64, .f32⟩ : BufTy).Contents (Elt F)),
  StableHlo.unary main_call5_v12 main_call5_v14 ((broadcastInDim S16384x64 ![0] bcast_S16384_S16384x64_0) : (⟨S16384, .i1⟩ : BufTy).Contents (Elt F) → (⟨S16384x64, .i1⟩ : BufTy).Contents (Elt F)),
  StableHlo.nullary main_call5_cst ((constant S_ .f32 0x7FC00000#32) : (⟨S_, .f32⟩ : BufTy).Contents (Elt F)),
  StableHlo.unary main_call5_cst main_call5_v15 ((broadcastInDim S16384x64 ![] bcast_S_S16384x64) : (⟨S_, .f32⟩ : BufTy).Contents (Elt F) → (⟨S16384x64, .f32⟩ : BufTy).Contents (Elt F)),
  StableHlo.ternary main_call5_v14 main_call5_v13 main_call5_v15 main_v25 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F))]

/-- The chosen codes laid out as images again. -/
def imageOps : List (HloOp τ sig (Elt F)) := [
  StableHlo.reshape main_v25 main_v26 (rfl : (.f32 : EltTy) = .f32) shapeCasts_S16384x64_S16x32x32x64,
  StableHlo.unary main_v26 main_v27 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F))]

/-- The loss. -/
def lossOps : List (HloOp τ sig (Elt F)) := [
  StableHlo.binary main_v27 main_arg0 main_v28 (subf : (⟨S16x64x32x32, .f32⟩ : BufTy).Contents (Elt F) → (⟨S16x64x32x32, .f32⟩ : BufTy).Contents (Elt F) → (⟨S16x64x32x32, .f32⟩ : BufTy).Contents (Elt F)),
  StableHlo.binary main_v28 main_v28 main_v29 (mulf : (⟨S16x64x32x32, .f32⟩ : BufTy).Contents (Elt F) → (⟨S16x64x32x32, .f32⟩ : BufTy).Contents (Elt F) → (⟨S16x64x32x32, .f32⟩ : BufTy).Contents (Elt F)),
  StableHlo.nullary main_cst_4 (constant S_ .f32 0x00000000#32),
  StableHlo.binary main_v29 main_cst_4 main_v30 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
  StableHlo.nullary main_cst_5 (constant S_ .f32 0x49800000#32),
  StableHlo.binary main_v30 main_cst_5 main_v31 (Host.divf : (⟨S_, .f32⟩ : BufTy).Contents (Elt F) → (⟨S_, .f32⟩ : BufTy).Contents (Elt F) → (⟨S_, .f32⟩ : BufTy).Contents (Elt F)),
  StableHlo.binary main_v27 main_arg0 main_v32 (subf : (⟨S16x64x32x32, .f32⟩ : BufTy).Contents (Elt F) → (⟨S16x64x32x32, .f32⟩ : BufTy).Contents (Elt F) → (⟨S16x64x32x32, .f32⟩ : BufTy).Contents (Elt F)),
  StableHlo.binary main_v32 main_v32 main_v33 (mulf : (⟨S16x64x32x32, .f32⟩ : BufTy).Contents (Elt F) → (⟨S16x64x32x32, .f32⟩ : BufTy).Contents (Elt F) → (⟨S16x64x32x32, .f32⟩ : BufTy).Contents (Elt F)),
  StableHlo.nullary main_cst_6 (constant S_ .f32 0x00000000#32),
  StableHlo.binary main_v33 main_cst_6 main_v34 ((fun x v => Host.reduceAdd x v reducesTo_S16x64x32x32_S_d0_1_2_3 h_S_) : (⟨S16x64x32x32, .f32⟩ : BufTy).Contents (Elt F) → (⟨S_, .f32⟩ : BufTy).Contents (Elt F) → (⟨S_, .f32⟩ : BufTy).Contents (Elt F)),
  StableHlo.nullary main_cst_7 (constant S_ .f32 0x49800000#32),
  StableHlo.binary main_v34 main_cst_7 main_v35 (Host.divf : (⟨S_, .f32⟩ : BufTy).Contents (Elt F) → (⟨S_, .f32⟩ : BufTy).Contents (Elt F) → (⟨S_, .f32⟩ : BufTy).Contents (Elt F)),
  StableHlo.nullary main_cst_8 (constant S_ .f32 0x3E800000#32),
  StableHlo.binary main_cst_8 main_v31 main_v36 (mulf : (⟨S_, .f32⟩ : BufTy).Contents (Elt F) → (⟨S_, .f32⟩ : BufTy).Contents (Elt F) → (⟨S_, .f32⟩ : BufTy).Contents (Elt F)),
  StableHlo.binary main_v35 main_v36 main_v37 (addf : (⟨S_, .f32⟩ : BufTy).Contents (Elt F) → (⟨S_, .f32⟩ : BufTy).Contents (Elt F) → (⟨S_, .f32⟩ : BufTy).Contents (Elt F)),
  StableHlo.nullary main_cst_9 (constant S_ .f32 0x00000000#32),
  StableHlo.nullary main_cst_10 (constant S_ .f32 0x40A00000#32),
  StableHlo.unary main_cst_9 main_call6_v0 (id : (⟨S_, .f32⟩ : BufTy).Contents (Elt F) → (⟨S_, .f32⟩ : BufTy).Contents (Elt F)),
  StableHlo.binary main_call6_v0 main_v37 main_call6_v1 (maximumf : (⟨S_, .f32⟩ : BufTy).Contents (Elt F) → (⟨S_, .f32⟩ : BufTy).Contents (Elt F) → (⟨S_, .f32⟩ : BufTy).Contents (Elt F)),
  StableHlo.unary main_cst_10 main_call6_v2 (id : (⟨S_, .f32⟩ : BufTy).Contents (Elt F) → (⟨S_, .f32⟩ : BufTy).Contents (Elt F)),
  StableHlo.binary main_call6_v2 main_call6_v1 main_v38 (minimumf : (⟨S_, .f32⟩ : BufTy).Contents (Elt F) → (⟨S_, .f32⟩ : BufTy).Contents (Elt F) → (⟨S_, .f32⟩ : BufTy).Contents (Elt F))]

/-- The first and the second result. -/
def resultOps : List (HloOp τ sig (Elt F)) := [
  StableHlo.binary main_v27 main_arg0 main_v39 (subf : (⟨S16x64x32x32, .f32⟩ : BufTy).Contents (Elt F) → (⟨S16x64x32x32, .f32⟩ : BufTy).Contents (Elt F) → (⟨S16x64x32x32, .f32⟩ : BufTy).Contents (Elt F)),
  StableHlo.binary main_arg0 main_v39 main_v40 (addf : (⟨S16x64x32x32, .f32⟩ : BufTy).Contents (Elt F) → (⟨S16x64x32x32, .f32⟩ : BufTy).Contents (Elt F) → (⟨S16x64x32x32, .f32⟩ : BufTy).Contents (Elt F)),
  StableHlo.reshape main_v24 main_v41 (rfl : (.i32 : EltTy) = .i32) shapeCasts_S16384_S16x32x32]

/-- The whole reference. -/
def ops : List (HloOp τ sig (Elt F)) :=
  rowOps ++ (unitRowOps ++ (unitCodeOps ++ (distanceOps ++ (argminOps ++ (takeOps ++ (imageOps ++ (lossOps ++ (resultOps))))))))

/-- The reference runs the operations of the list, in order. -/
theorem main_eq (d : Dev nD) : main (F := F) d = seq ops := by sl_kernel_rfl

/-- The operations touch arrays of the one core only, -/
theorem ops_bufs : (ops (F := F)).Forall fun op => op.bufs ⊆ tcRefs τ sig := by
  simp only [ops, List.forall_append]
  refine ⟨?_, ?_, ?_, ?_, ?_, ?_, ?_, ?_, ?_⟩ <;>
    simp [rowOps, unitRowOps, unitCodeOps, distanceOps, argminOps, takeOps, imageOps, lossOps, resultOps]

/-- and none of them writes an array anew. -/
theorem ops_fresh : ∀ op ∈ (ops (F := F)), op.fresh = ∅ :=
  List.forall_iff_forall_mem.mp (forall_fresh_of_map rfl)

/-- The reference ends, and every buffer then holds what the list of operations computes from the start. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_hlo defs main main_eq (by decide) (by decide) ops_bufs ops_fresh m ρ

/-- No operation writes the images, -/
theorem kept0 (V : Valuation τ sig (Elt F)) : after ops V (Proc.devRef .tc main_arg0) = V (Proc.devRef .tc main_arg0) := by
  after_reads_simp

/-- and none writes the codes. -/
theorem kept1 (V : Valuation τ sig (Elt F)) : after ops V (Proc.devRef .tc main_arg1) = V (Proc.devRef .tc main_arg1) := by
  after_reads_simp

/-- The reference ends with its arguments as they were and every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h =>
    ⟨fun c => ⟨(h c main_arg0).trans (kept0 _), (h c main_arg1).trans (kept1 _)⟩, sem_eq_zero_of_no_sems rfl r.2⟩

end Cert.ReferenceIdeal.Vq
-- ==== Proof.Closest.lean ====
/- The mathematics both programs compute: a vector divided by its length, the squared distance between two such vectors,
   and the number of the closest of 1024 of them (the least number where several are equally close). -/
module

public import Idealize.ShloMosaic.PureOps.Ideal.Laws
public import Mathlib.Algebra.BigOperators.Fin
public import Mathlib.Data.EReal.Inv

@[expose] public section

noncomputable section

namespace Cert.Vq

open Idealize.ShloMosaic

/-- The least length a vector is divided by. -/
def eps : EReal := Ideal.ofBits .f32 730643660#32

/-- That length is positive. -/
theorem eps_pos : 0 < eps := by
  have h : eps = (((8388608 + 834764 : ℝ) * (2 : ℝ) ^ (-63 : ℤ) : ℝ) : EReal) := by
    simp [eps, Ideal.ofBits, Ideal.ieee, -EReal.coe_mul]
    norm_num
  rw [h]
  exact EReal.coe_pos.mpr (by positivity)

/-- A vector's sum of squares. -/
def sq (v : Fin 64 → EReal) : EReal := ∑ k, v k * v k

/-- A vector divided by its length, or by `eps` where its length is below that. -/
def unit (v : Fin 64 → EReal) (k : Fin 64) : EReal := Ideal.div (v k) (max eps (Ideal.sqrt (sq v)))

/-- The squared distance between `v` and `w` after each is divided by its length. -/
def dist (v w : Fin 64 → EReal) : EReal := sq (unit v) - 2 * (∑ k, unit w k * unit v k) + sq (unit w)

/-- A square is not negative. -/
theorem mul_self_nonneg (x : EReal) : 0 ≤ x * x := by
  induction x with
  | bot => simp
  | coe r => exact_mod_cast _root_.mul_self_nonneg r
  | top => simp

/-- Every entry of a vector whose sum of squares is not `⊤` is a real number. -/
theorem entry_real {v : Fin 64 → EReal} (h : sq v ≠ ⊤) (k : Fin 64) : ∃ r : ℝ, v k = r := by
  have hk : v k * v k ≠ ⊤ := fun e => h (top_unique (e ▸ Finset.single_le_sum (fun i _ => mul_self_nonneg (v i)) (Finset.mem_univ k)))
  induction hv : v k with
  | bot => rw [hv] at hk; simp at hk
  | coe r => exact ⟨r, rfl⟩
  | top => rw [hv] at hk; simp at hk

/-- A vector divided by its length has real entries, whatever the vector's entries are. -/
theorem unit_real (v : Fin 64 → EReal) (k : Fin 64) : ∃ r : ℝ, unit v k = r := by
  have hL : 0 < max eps (Ideal.sqrt (sq v)) := lt_of_lt_of_le eps_pos (le_max_left _ _)
  rw [unit, Ideal.div, if_neg hL.ne']
  by_cases ht : max eps (Ideal.sqrt (sq v)) = ⊤
  · exact ⟨0, by rw [ht]; simp⟩
  · have hs : sq v ≠ ⊤ := fun e => ht (top_unique (by rw [e]; exact le_max_right _ _))
    obtain ⟨r, hr⟩ := entry_real hs k
    have hb : max eps (Ideal.sqrt (sq v)) ≠ ⊥ := fun e => by rw [e] at hL; exact not_lt_bot hL
    refine ⟨r * (max eps (Ideal.sqrt (sq v))).toReal⁻¹, ?_⟩
    rw [hr, EReal.coe_mul, EReal.coe_inv, EReal.coe_toReal ht hb]

/-- Twice the products summed is the products of the doubled entries summed, for vectors divided by their lengths. -/
theorem two_mul_sum (v w : Fin 64 → EReal) :
    2 * (∑ k, unit w k * unit v k) = ∑ k, (2 * unit v k) * unit w k := by
  choose a ha using unit_real v
  choose b hb using unit_real w
  simp only [ha, hb]
  have h2 : (2 : EReal) = ((2 : ℝ) : EReal) := rfl
  rw [h2]
  simp only [← EReal.coe_mul]
  have hc : ∀ f : Fin 64 → ℝ, (∑ k, (f k : EReal)) = ((∑ k, f k : ℝ) : EReal) := fun f => by
    induction (Finset.univ : Finset (Fin 64)) using Finset.induction_on with
    | empty => simp
    | insert i s hi ih => rw [Finset.sum_insert hi, Finset.sum_insert hi, ih, EReal.coe_add]
  rw [hc, hc, ← EReal.coe_mul, Finset.mul_sum]
  exact congrArg _ (Finset.sum_congr rfl fun k _ => by ring)

/-! ## The closest -/

/-- Some number has the least distance of all, and no number before it has. -/
theorem exists_closest (d : Fin 1024 → EReal) : ∃ n, (∀ j, d n ≤ d j) ∧ ∀ j, j < n → d n < d j := by
  obtain ⟨a, -, ha⟩ := Finset.exists_min_image Finset.univ d ⟨0, Finset.mem_univ _⟩
  obtain ⟨n, hn, hmin⟩ := WellFounded.has_min (wellFounded_lt (α := Fin 1024)) {n | ∀ j, d n ≤ d j} ⟨a, fun j => ha j (Finset.mem_univ _)⟩
  refine ⟨n, hn, fun j hj => lt_of_le_of_ne (hn j) fun e => hmin j (fun i => e ▸ hn i) hj⟩

/-- The number of the least distance, the least such number. -/
def closest (d : Fin 1024 → EReal) : Fin 1024 := Classical.choose (exists_closest d)

/-- No distance is below the closest's, -/
theorem closest_le (d : Fin 1024 → EReal) (j : Fin 1024) : d (closest d) ≤ d j := (Classical.choose_spec (exists_closest d)).1 j

/-- and every distance before it is above. -/
theorem closest_lt (d : Fin 1024 → EReal) (j : Fin 1024) (h : j < closest d) : d (closest d) < d j :=
  (Classical.choose_spec (exists_closest d)).2 j h

/-- A number with these two properties is the closest. -/
theorem eq_closest {d : Fin 1024 → EReal} {n : Fin 1024} (h₁ : ∀ j, d n ≤ d j) (h₂ : ∀ j, j < n → d n < d j) : n = closest d := by
  rcases lt_trichotomy n (closest d) with h | h | h
  · exact absurd (closest_lt d n h) (not_lt.mpr (h₁ _))
  · exact h
  · exact absurd (h₂ _ h) (not_lt.mpr (closest_le d _))

/-- The least of the distances, taken with `⊤`, is the closest's. -/
theorem fold_min (d : Fin 1024 → EReal) : Finset.fold min (Ideal.ofBits .f32 2139095040#32) d Finset.univ = d (closest d) := by
  have ht : Ideal.ofBits .f32 2139095040#32 = ⊤ := by simp [Ideal.ofBits, Ideal.ieee]
  rw [ht]
  refine le_antisymm (Finset.fold_min_le _ |>.mpr (.inr ⟨closest d, Finset.mem_univ _, le_rfl⟩)) ?_
  exact Finset.le_fold_min _ |>.mpr ⟨le_top, fun j _ => closest_le d j⟩

/-! ## The three results, of sixteen images `Z` of 1024 places and of a codebook `E` -/

/-- The place in row `h` and column `w` of an image. -/
def place (h w : Fin 32) : Fin 1024 := ⟨h.val * 32 + w.val, by omega⟩

/-- The number of the codebook row closest to the vector at a place. -/
def choice (E : Fin 1024 → Fin 64 → EReal) (Z : Fin 16 → Fin 64 → Fin 1024 → EReal) (b : Fin 16) (p : Fin 1024) : Fin 1024 :=
  closest fun j => dist (fun k => Z b k p) (E j)

/-- The squared difference of two numbers. -/
def gap (a b : EReal) : EReal := (a - b) * (a - b)

/-- The squared differences between the images and the chosen rows, summed. -/
def total (E : Fin 1024 → Fin 64 → EReal) (Z : Fin 16 → Fin 64 → Fin 1024 → EReal) : EReal :=
  ∑ b, ∑ k, ∑ p, gap (E (choice E Z b p) k) (Z b k p)

/-- The sum is not negative. -/
theorem total_nonneg (E : Fin 1024 → Fin 64 → EReal) (Z : Fin 16 → Fin 64 → Fin 1024 → EReal) : 0 ≤ total E Z :=
  Finset.sum_nonneg fun _ _ => Finset.sum_nonneg fun _ _ => Finset.sum_nonneg fun _ _ => mul_self_nonneg _

/-- The loss: the mean of the squared differences and a quarter of it, cut to between 0 and 5. -/
def loss (E : Fin 1024 → Fin 64 → EReal) (Z : Fin 16 → Fin 64 → Fin 1024 → EReal) : EReal :=
  min (Ideal.ofBits .f32 1084227584#32)
    (max 0 (Ideal.div (Ideal.ofBits .f32 1067450368#32 * total E Z) (Ideal.ofBits .f32 1233125376#32)))

end Cert.Vq

end
-- ==== Proof.Choice.lean ====
/- What the second half of a point's computation chooses, over the extended reals: for every column, the closest row's
   number and that row, whichever of its two ways it takes. In the first way the rows at the least distance are counted
   and, no column having two of them, a product with the marks of the least distances reads off the row and its number.
   In the second way the number is the least of the marked rows' numbers. -/
module

public import proofs.«01_k».proof.Proof.Block
public import proofs.«01_k».proof.Proof.Closest
public import Idealize.ShloMosaic.Lib.Pointwise
public import Idealize.ShloMosaic.Lib.WordCmp
public import Idealize.ShloMosaic.PureOps.Ideal.Laws

@[expose] public section

set_option maxRecDepth 16384

noncomputable section

namespace Cert.KernelIdeal.Vq

open Idealize.ShloMosaic Cert.KernelIdeal.Gen Cert.KernelIdeal Cert.Vq

variable (p n : FVec Ideal S1024x4096 .f32) (se : Vec Ideal S1024x1 .f32) (g : Vec Ideal S72x1024 .f32)

/-- The augmented codebook has more rows than the codebook has columns. -/
theorem table_rows : 64 ≤ 72 := by decide

/-- The distances of column `c`. -/
def column (c : Fin 4096) (j : Fin 1024) : EReal := k0_pay26 p n se (ix2 j c)

/-- A mark, as a number: one where the two are equal, zero elsewhere. -/
theorem mark (a b : EReal) :
    FloatOps.sitofp (F := Ideal) FTy.f32 (BitVec.setWidth 32 (BitVec.ofBool (decide (a = b)))) = if a = b then (1 : EReal) else 0 := by
  by_cases h : a = b
  · simp only [h, decide_true, BitVec.ofBool_true, if_true]
    show (((BitVec.setWidth 32 1#1).toInt : ℝ) : EReal) = 1
    norm_num
  · simp only [h, decide_false, BitVec.ofBool_false, if_false]
    show (((BitVec.setWidth 32 0#1).toInt : ℝ) : EReal) = 0
    norm_num

/-- The least distance of a column. -/
theorem least_apply (c : Fin 4096) : k0_pay27 p n se (ix2 0 c) = column p n se c (closest (column p n se c)) := by
  refine Eq.trans ?_ (fold_min (column p n se c))
  unfold k0_pay27
  pointwise
  rfl

/-- The product of the augmented codebook with the marks. -/
theorem marked_apply (r : Fin 72) (c : Fin 4096) :
    k0_pay28 p n se g (ix2 r c)
      = ∑ j, g (ix2 r j) * if column p n se c j = column p n se c (closest (column p n se c)) then (1 : EReal) else 0 := by
  unfold k0_pay28
  pointwise
  simp only [least_apply, mark]
  rfl

/-- Where some numbers are marked by one, their sum is the number of marks. -/
theorem sum_marks (P : Fin 1024 → Prop) [DecidablePred P] :
    (∑ j, if P j then (1 : EReal) else 0) = (((Finset.univ.filter P).card : ℝ) : EReal) := by
  rw [Finset.sum_boole]
  rfl

variable (h64 : ∀ j, g (ix2 64 j) = ((j.val : ℝ) : EReal)) (h65 : ∀ j, g (ix2 65 j) = 1)

include h65 in
/-- Where no column has two rows at its least distance, the closest row is the only one. -/
theorem unique (h : ¬ ties p n se g) (c : Fin 4096) (j : Fin 1024) :
    column p n se c j = column p n se c (closest (column p n se c)) ↔ j = closest (column p n se c) := by
  refine ⟨fun hj => ?_, fun hj => hj ▸ rfl⟩
  have hle : k0_pay41 (k0_pay30 p n se g) ≤ (((3 / 2 : ℝ)) : EReal) := by
    have e : Ideal.ofBits .f32 1069547520#32 = ((3 / 2 : ℝ) : EReal) := by
      simp [Ideal.ofBits, Ideal.ieee, -EReal.coe_mul]; norm_num
    rw [← e]
    refine not_lt.mp fun hlt => h ?_
    unfold ties
    pointwise
    simp only [hlt, decide_true]
    decide
  have hc : k0_pay30 p n se g (ix2 0 c) ≤ k0_pay41 (k0_pay30 p n se g) := by
    unfold k0_pay41
    pointwise
    exact Finset.le_fold_max _ |>.mpr (.inr ⟨(0, c), Finset.mem_univ _, le_rfl⟩)
  have hs : k0_pay30 p n se g (ix2 0 c) = (((Finset.univ.filter fun j => column p n se c j = column p n se c (closest (column p n se c))).card : ℝ) : EReal) := by
    unfold k0_pay30
    pointwise
    rw [marked_apply, ← sum_marks]
    exact Finset.sum_congr rfl fun j _ => by rw [h65, one_mul]
  have hcard := EReal.coe_le_coe_iff.mp (hs ▸ hc.trans hle)
  have h2 : (Finset.univ.filter fun j => column p n se c j = column p n se c (closest (column p n se c))).card ≤ 1 := by
    by_contra hgt
    have : (2 : ℝ) ≤ ((Finset.univ.filter fun j => column p n se c j = column p n se c (closest (column p n se c))).card : ℝ) := by
      exact_mod_cast (by omega : 2 ≤ _)
    linarith
  exact Finset.card_le_one.mp h2 j (by simp [hj]) _ (by simp)

/-- A sum in which one number is marked is the entry there. -/
theorem sum_mark (f : Fin 1024 → EReal) (m : Fin 1024) : (∑ j, f j * if j = m then (1 : EReal) else 0) = f m := by
  rw [Finset.sum_eq_single m (fun j _ hj => by rw [if_neg hj, mul_zero]) (fun h => absurd (Finset.mem_univ m) h), if_pos rfl, mul_one]

include h65 in
/-- The product reads off the closest row's entries. -/
theorem marked_unique (h : ¬ ties p n se g) (r : Fin 72) (c : Fin 4096) :
    k0_pay28 p n se g (ix2 r c) = g (ix2 r (closest (column p n se c))) := by
  rw [marked_apply]
  simp only [unique p n se g h65 h]
  exact sum_mark (fun j => g (ix2 r j)) _

/-- A row's number back from the real number to the word. -/
theorem toWord (j : Fin 1024) : FloatOps.fptosi (F := Ideal) (φ := .f32) 32 ((j.val : ℝ) : EReal) = BitVec.ofNat 32 j.val := by
  have hj := j.isLt
  show Ideal.fptosi 32 ((j.val : ℝ) : EReal) = _
  have h0 : (0 : ℝ) ≤ (j.val : ℝ) := Nat.cast_nonneg _
  unfold Ideal.fptosi
  show BitVec.ofInt 32 (max _ (min _ (if 0 ≤ (j.val : ℝ) then ⌊(j.val : ℝ)⌋ else ⌈(j.val : ℝ)⌉))) = _
  rw [if_pos h0, Int.floor_natCast, min_eq_right (by norm_num; omega), max_eq_right (by norm_num), BitVec.ofInt_natCast]

/-- The lesser of two words, as integers. -/
theorem toInt_min (a b : BitVec 32) : (IntOp.minsi a b).toInt = min a.toInt b.toInt := by
  unfold IntOp.minsi
  split <;> rename_i h
  · rw [BitVec.slt_iff_toInt_lt] at h; omega
  · rw [BitVec.slt_iff_toInt_lt] at h; omega

/-- The least of the marked rows' numbers, where the marks are the least distances, is the closest row's. -/
theorem least_number (d : Fin 1024 → EReal) :
    Finset.fold IntOp.minsi 2147483647#32 (fun j : Fin 1024 => if d j = d (closest d) then BitVec.ofNat 32 j.val else 1024#32) Finset.univ
      = BitVec.ofNat 32 (closest d).val := by
  have hv : ∀ j : Fin 1024, (BitVec.ofNat 32 j.val).toInt = j.val := fun j => by
    have := j.isLt
    rw [BitVec.toInt_eq_toNat_cond, BitVec.toNat_ofNat]
    omega
  apply BitVec.eq_of_toInt_eq
  rw [hv, ← Finset.fold_hom (op' := min) (m := BitVec.toInt) toInt_min]
  refine le_antisymm (Finset.fold_min_le _ |>.mpr (.inr ⟨closest d, Finset.mem_univ _, by simp [hv]⟩)) ?_
  refine Finset.le_fold_min _ |>.mpr ⟨?_, fun j _ => ?_⟩
  · have := (closest d).isLt
    show ((closest d).val : Int) ≤ 2147483647
    omega
  · split
    · rename_i h
      rw [hv]
      refine Int.ofNat_le.mpr (not_lt.mp fun hlt => ?_)
      exact absurd (closest_lt d j hlt) (by rw [h]; exact lt_irrefl _)
    · have := (closest d).isLt
      show ((closest d).val : Int) ≤ 1024
      omega

/-- The second way's number of a column. -/
theorem second_apply (c : Fin 4096) :
    k0_pay3 (k0_pay26 p n se) (k0_pay27 p n se) (ix2 0 c) = BitVec.ofNat 32 (closest (column p n se c)).val := by
  rw [← least_number]
  unfold k0_pay3
  pointwise
  simp only [least_apply]
  rfl

include h64 h65 in
/-- A column's number is the closest row's. -/
theorem nearest_apply (c : Fin 4096) : nearest p n se g (ix2 0 c) = BitVec.ofNat 32 (closest (column p n se c)).val := by
  unfold nearest
  split
  · exact second_apply p n se c
  · rename_i h
    unfold k0_pay31
    pointwise
    rw [marked_unique p n se g h65 h, h64, toWord]

include h65 in
/-- A column's row is the closest row. -/
theorem quant_apply (k : Fin 64) (c : Fin 4096) :
    quant p n se g (ix2 k c) = g (ix2 (k.castLE table_rows) (closest (column p n se c))) := by
  unfold quant
  split
  · unfold k0_pay4
    pointwise
    simp only [second_apply]
    rw [← sum_mark (fun j => g (ix2 (k.castLE table_rows) j)) (closest (column p n se c))]
    refine Finset.sum_congr rfl fun j _ => ?_
    refine congrArg (g (ix2 (k.castLE table_rows) j) * ·) ?_
    have hj := j.isLt
    have hm := (closest (column p n se c)).isLt
    by_cases e : j = closest (column p n se c)
    · rw [if_pos e, e]
      show (((BitVec.setWidth 32 (BitVec.ofBool (_ == _))).toInt : ℝ) : EReal) = 1
      simp
    · rw [if_neg e]
      show (((BitVec.setWidth 32 (BitVec.ofBool (_ == _))).toInt : ℝ) : EReal) = 0
      have : (BitVec.ofNat 32 j.val == BitVec.ofNat 32 (closest (column p n se c)).val) = false := by
        rw [beq_eq_false_iff_ne]
        intro h
        have := congrArg BitVec.toNat h
        simp only [BitVec.toNat_ofNat] at this
        exact e (Fin.ext (by omega))
      rw [this]
      simp
  · rename_i h
    unfold k0_pay29
    pointwise
    rw [marked_unique p n se g h65 h]
    rfl

end Cert.KernelIdeal.Vq

end
-- ==== Proof.Values.lean ====
/- What one point computes, over the extended reals: the distances of its columns from the codebook's rows, the blocks of
   chosen rows and numbers it writes, and the running sum and the loss. -/
module

public import proofs.«01_k».proof.Proof.Choice

@[expose] public section

set_option maxRecDepth 16384

noncomputable section

namespace Cert.KernelIdeal.Vq

open Idealize.ShloMosaic Cert.KernelIdeal.Gen Cert.KernelIdeal Cert.Vq

/-- Row `j` of the codebook. -/
def code (E : Vec Ideal S1024x64 .f32) (j : Fin 1024) (k : Fin 64) : EReal := E (ix2 j k)

/-- The image column `c` of a block is of. -/
def imageOf (c : Fin 4096) : Fin 4 := ⟨c.val / 1024, by omega⟩

/-- The place of column `c` of a block in its image. -/
def placeOf (c : Fin 4096) : Fin 1024 := ⟨c.val % 1024, Nat.mod_lt _ (by decide)⟩

/-- Column `c` of a block of four images. -/
def colOf (x : Vec Ideal S4x64x1024 .f32) (c : Fin 4096) (k : Fin 64) : EReal := x (ix3 (imageOf c) k (placeOf c))

/-- The normalised codebook's entries. -/
theorem code_apply (E : Vec Ideal S1024x64 .f32) (j : Fin 1024) (k : Fin 64) : k0_pay11 E (ix2 j k) = unit (code E j) k := by
  unfold k0_pay11 k0_pay10
  pointwise
  rfl

/-- The normalised codebook rows' sums of squares. -/
theorem codeNorm_apply (E : Vec Ideal S1024x64 .f32) (j : Fin 1024) : k0_pay12 E (ix2 j 0) = Vq.sq (unit (code E j)) := by
  unfold k0_pay12 k0_pay10
  pointwise
  rfl

/-- A normalised image's entries. -/
theorem image_apply (v : Vec Ideal S1x64x1024 .f32) (k : Fin 64) (s : Fin 1024) :
    k0_pay14 v (ix2 k s) = unit (fun k => v (ix3 0 k s)) k := by
  unfold k0_pay14
  pointwise
  rfl

/-- The normalised columns' entries. -/
theorem cols_apply (x : Vec Ideal S4x64x1024 .f32) (k : Fin 64) (c : Fin 4096) : cols x (ix2 k c) = unit (colOf x c) k := by
  show k0_pay15 (img x (imageOf c)) (ix2 k (placeOf c)) = _
  unfold k0_pay15
  pointwise
  rw [image_apply]
  rfl

/-- An entry of the four images' sums of squares, one image's after the other's. -/
theorem norms_cases (x : Vec Ideal S4x64x1024 .f32) (j : Fin 1024) (c : Fin 4096) (i : Fin 4) (s : Fin 1024)
    (h : c.val = i.val * 1024 + s.val) : norms x (ix2 j c) = ∑ k, k0_pay14 (img x i) (ix2 k s) * k0_pay14 (img x i) (ix2 k s) := by
  have hs := s.isLt
  unfold norms k0_pay25
  pointwise
  fin_cases i
  · have h' : c.val = s.val := by simpa using h
    rw [dif_pos (by omega)]
    unfold k0_pay16
    pointwise
    simp only [h']
  · have h' : c.val = 1024 + s.val := by simpa using h
    rw [dif_neg (by omega), dif_pos (by omega)]
    unfold k0_pay19
    pointwise
    simp only [h', Nat.add_sub_cancel_left]
    rfl
  · have h' : c.val = 1024 + 1024 + s.val := by rw [h]; norm_num
    rw [dif_neg (by omega), dif_neg (by omega), dif_pos (by omega)]
    simp only [h', Nat.sub_sub, Nat.add_sub_cancel_left]
    rfl
  · have h' : c.val = 1024 + 1024 + 1024 + s.val := by rw [h]; norm_num
    rw [dif_neg (by omega), dif_neg (by omega), dif_neg (by omega)]
    simp only [h', Nat.sub_sub, Nat.add_sub_cancel_left]
    rfl

/-- The columns' sums of squares. -/
theorem norms_apply (x : Vec Ideal S4x64x1024 .f32) (j : Fin 1024) (c : Fin 4096) : norms x (ix2 j c) = Vq.sq (unit (colOf x c)) := by
  rw [norms_cases x j c (imageOf c) (placeOf c) (by show c.val = c.val / 1024 * 1024 + c.val % 1024; omega)]
  simp only [image_apply]
  rfl

/-- The distances a point works with are the squared distances of its normalised columns from the normalised codebook's rows. -/
theorem column_eq (E : Vec Ideal S1024x64 .f32) (x : Vec Ideal S4x64x1024 .f32) (c : Fin 4096) :
    column (prods (k0_pay11 E) x) (norms x) (k0_pay12 E) c = fun j => dist (colOf x c) (code E j) := by
  funext j
  have e2 : Ideal.ofBits .f32 1073741824#32 = (2 : EReal) := by
    simp [Ideal.ofBits, Ideal.ieee, -EReal.coe_mul]; norm_num; rfl
  unfold column k0_pay26 prods k0_pay24
  pointwise
  simp only [norms_apply, code_apply, codeNorm_apply, cols_apply, e2]
  rfl

/-- The number of the codebook row closest to `v`. -/
def pick (E : Vec Ideal S1024x64 .f32) (v : Fin 64 → EReal) : Fin 1024 := closest fun j => dist v (code E j)

/-- The columns of a block, by image and place. -/
theorem colOf_at (x : Vec Ideal S4x64x1024 .f32) (i : Fin 4) (s : Fin 1024) (h : i.val * 1024 + s.val < 4096) :
    colOf x ⟨i.val * 1024 + s.val, h⟩ = fun k => x (ix3 i k s) := by
  have hs := s.isLt
  funext k
  have h0 : imageOf ⟨i.val * 1024 + s.val, h⟩ = i := Fin.ext (by show (i.val * 1024 + s.val) / 1024 = i.val; omega)
  have h1 : placeOf ⟨i.val * 1024 + s.val, h⟩ = s := Fin.ext (by show (i.val * 1024 + s.val) % 1024 = s.val; omega)
  unfold colOf
  rw [h0, h1]

variable (E : Vec Ideal S1024x64 .f32) (g : Vec Ideal S72x1024 .f32) (x : Vec Ideal S4x64x1024 .f32)
variable (hE : ∀ (k : Fin 64) j, g (ix2 (k.castLE table_rows) j) = E (ix2 j k))
variable (h64 : ∀ j, g (ix2 64 j) = ((j.val : ℝ) : EReal)) (h65 : ∀ j, g (ix2 65 j) = 1)

include hE h65 in
/-- The block of chosen rows: at every place the codebook row closest to the column there. -/
theorem blockQ_apply (i : Fin 4) (k : Fin 64) (s : Fin 1024) :
    blockQ (k0_pay11 E) (k0_pay12 E) g x (ix3 i k s) = code E (pick E fun k => x (ix3 i k s)) k := by
  unfold blockQ imagesOf
  show quant _ _ _ _ (ix2 k _) = _
  rw [quant_apply _ _ _ _ h65, hE, column_eq]
  unfold pick
  rw [← colOf_at x i s]
  rfl

include h64 h65 in
/-- The block of chosen rows' numbers. -/
theorem blockI_apply (i : Fin 4) (s : Fin 1024) :
    blockI (k0_pay11 E) (k0_pay12 E) g x (ix3 i 0 s) = BitVec.ofNat 32 (pick E fun k => x (ix3 i k s)).val := by
  unfold blockI rowsOf
  show nearest _ _ _ _ (ix2 0 _) = _
  rw [nearest_apply _ _ _ _ h64 h65, column_eq]
  unfold pick
  rw [← colOf_at x i s]
  rfl

/-- The running sum after a point. -/
theorem sumStep_apply (q x : Vec Ideal S4x64x1024 .f32) (s : Vec Ideal S1x1 .f32) :
    sumStep q x s (ix2 0 0) = s (ix2 0 0) + ∑ i : Fin 4, ∑ k : Fin 64, ∑ p : Fin 1024, gap (q (ix3 i k p)) (x (ix3 i k p)) := by
  unfold sumStep k0_pay1 k0_pay46 k0_pay45
  pointwise
  simp only [Fin.sum_univ_four]
  simp only [img, gap]
  rfl

/-- The loss from the sum. -/
theorem loss_apply (s : Vec Ideal S1x1 .f32) :
    k0_pay2 s (ix2 0 0) = min (Ideal.ofBits .f32 1084227584#32) (max 0 (Ideal.div (Ideal.ofBits .f32 1067450368#32 * s (ix2 0 0)) (Ideal.ofBits .f32 1233125376#32))) := by
  unfold k0_pay2
  pointwise

end Cert.KernelIdeal.Vq

end
-- ==== Proof.Arrays.lean ====
/- The kernel program's results after a run, over the extended reals: what the host part before the launch puts into the
   windows' arrays, what the windows' arrays hold after the last point, and the reshapes after it. -/
module

public import proofs.«01_k».proof.Proof.Values
public import proofs.«01_k».proof.Proof.Launch
public import Idealize.ShloMosaic.Lib.Pipeline.ValueKit
public import Idealize.ShloMosaic.Lib.StableHlo.ReadAt

@[expose] public section

set_option maxRecDepth 16384

noncomputable section

namespace Cert.KernelIdeal.Vq

open Idealize.ShloMosaic Idealize.ShloMosaic.TcCoe Idealize.SL.Sem
open Idealize.ShloMosaic.Pipeline (Dat)
open Cert.KernelIdeal.Gen Cert.KernelIdeal Cert.Vq

variable (m : (ℓ : Loc nD τ sig) → Buf (Elt Ideal) ℓ) (c : Dev nD)

/-- The images the program is given. -/
def images : Vec Ideal S16x64x32x32 .f32 := m ((c : Thread nD τ).loc main_arg0)

/-- The codebook the program is given. -/
def book : Vec Ideal S1024x64 .f32 := m ((c : Thread nD τ).loc main_arg1)

/-- Where the windows' blocks lie. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![0, 0] :=
  (by decide +kernel : ∀ t : Fin grid0.N, _)

/-- The images with each image's places in one row. -/
def flat : Vec Ideal S16x64x1024 .f32 := V m c main_v0

/-- The augmented codebook. -/
def table : Vec Ideal S72x1024 .f32 := V m c main_v6

/-- Image `b` as 64 rows of 1024 numbers. -/
theorem flat_apply (b : Fin 16) (k : Fin 64) (p : Fin 1024) :
    flat m c (ix3 b k p)
      = images m c (ix4 b k ⟨p.val / 32, by omega⟩ ⟨p.val % 32, Nat.mod_lt _ (by decide)⟩) := by
  show StableHlo.after ([hostOps0].flatten) (fun b => m (c, b)) _ _ = _
  simp only [List.flatten_cons, List.flatten_nil, List.append_nil]
  after_reads_at
  rfl

/-- The augmented codebook's first 64 rows are the codebook's columns. -/
theorem table_code (k : Fin 64) (j : Fin 1024) :
    table m c (ix2 (k.castLE table_rows) j) = book m c (ix2 j k) := by
  show StableHlo.after ([hostOps0].flatten) (fun b => m (c, b)) _ _ = _
  simp only [List.flatten_cons, List.flatten_nil, List.append_nil]
  after_reads_at
  rw [dif_pos (show (k.castLE table_rows).val < 64 from k.isLt)]
  refine Eq.trans (congrFun (StableHlo.unary_result' _ _ _ _) _) ?_
  unfold StableHlo.upto
  simp only [List.take]
  after_reads_at
  rfl

/-- Row 64 is the numbers 0 to 1023. -/
theorem table_number (j : Fin 1024) : table m c (ix2 64 j) = ((j.val : ℝ) : EReal) := by
  show StableHlo.after ([hostOps0].flatten) (fun b => m (c, b)) _ _ = _
  simp only [List.flatten_cons, List.flatten_nil, List.append_nil]
  after_reads_at
  rw [StableHlo.reshape_result']
  unfold StableHlo.upto
  simp only [List.take]
  after_reads_at
  have hj := j.isLt
  have hv : (BitVec.ofNat 32 j.val).toInt = j.val := by
    rw [BitVec.toInt_eq_toNat_cond, BitVec.toNat_ofNat]
    omega
  show (((BitVec.ofNat 32 j.val).toInt : ℝ) : EReal) = _
  rw [hv]
  rfl

/-- Row 65 is ones. -/
theorem table_one (j : Fin 1024) : table m c (ix2 65 j) = 1 := by
  show StableHlo.after ([hostOps0].flatten) (fun b => m (c, b)) _ _ = _
  simp only [List.flatten_cons, List.flatten_nil, List.append_nil]
  after_reads_at
  rw [StableHlo.unary_result']
  unfold StableHlo.upto
  simp only [List.take]
  after_reads_at

/-- The codebook's block is the codebook. -/
theorem block_book (t : Fin cfg0.N) : iblk m c 1 t = book m c := by
  blk_ext! [iblk, V, idx t]

/-- The augmented codebook's block is the augmented codebook. -/
theorem block_table (t : Fin cfg0.N) : iblk m c 2 t = table m c := by
  blk_ext! [iblk, table, idx t]

/-- A point's images are four of the sixteen. -/
theorem block_images (t : Fin cfg0.N) (b : Fin 16) (i : Fin 4) (hb : b.val = t.val * 4 + i.val) (k : Fin 64) (p : Fin 1024) :
    (iblk m c 0 t : Vec Ideal S4x64x1024 .f32) (ix3 i k p) = flat m c (ix3 b k p) := by
  blk_ext [iblk, flat, idx t]

/-- The codebook by rows. -/
def rows : Fin 1024 → Fin 64 → EReal := code (book m c)

/-- The images by image, row and place. -/
def pixels (b : Fin 16) (k : Fin 64) (p : Fin 1024) : EReal := flat m c (ix3 b k p)

/-- The image a point's image `i` is. -/
def imageAt (t : Fin cfg0.N) (i : Fin 4) : Fin 16 :=
  ⟨t.val * 4 + i.val, by have h : t.val < 4 := lt_of_lt_of_eq t.isLt N_0; omega⟩

/-- What a point writes of the chosen rows. -/
theorem outQ_apply (t : Fin cfg0.N) (i : Fin 4) (k : Fin 64) (p : Fin 1024) :
    outQ m c t (ix3 i k p) = rows m c (choice (rows m c) (pixels m c) (imageAt t i) p) k := by
  unfold outQ codes codeNorms
  rw [block_book, block_table, blockQ_apply _ _ _ (table_code m c) (table_one m c)]
  unfold pick
  simp only [block_images m c t (imageAt t i) i rfl]
  rfl

/-- What a point writes of their numbers. -/
theorem outI_apply (t : Fin cfg0.N) (i : Fin 4) (p : Fin 1024) :
    outI m c t (ix3 i 0 p) = BitVec.ofNat 32 (choice (rows m c) (pixels m c) (imageAt t i) p).val := by
  unfold outI codes codeNorms
  rw [block_book, block_table, blockI_apply _ _ _ (table_number m c) (table_one m c)]
  unfold pick
  simp only [block_images m c t (imageAt t i) i rfl]
  rfl

/-- The squared differences of one image, summed; zero beyond the last image. -/
def imageGap (n : ℕ) : EReal :=
  if h : n < 16 then ∑ k, ∑ p, gap (rows m c (choice (rows m c) (pixels m c) ⟨n, h⟩ p) k) (pixels m c ⟨n, h⟩ k p) else 0

/-- The running sum after a point is the sum over the images up to it. -/
theorem sumAt_apply (n : ℕ) (h : n < cfg0.N) : sumAt m c n h (ix2 0 0) = ∑ b ∈ Finset.range (4 * (n + 1)), imageGap m c b := by
  have hN : cfg0.N = 4 := N_0
  have step : ∀ (n : ℕ) (h : n < cfg0.N) (s : Vec Ideal S1x1 .f32),
      sumStep (outQ m c ⟨n, h⟩) (iblk m c 0 ⟨n, h⟩) s (ix2 0 0)
        = s (ix2 0 0) + ∑ i : Fin 4, imageGap m c (4 * n + i.val) := by
    intro n h s
    rw [sumStep_apply]
    refine congrArg (s (ix2 0 0) + ·) (Finset.sum_congr rfl fun i _ => ?_)
    have hi : 4 * n + i.val < 16 := by have := i.isLt; omega
    have e : imageAt ⟨n, h⟩ i = ⟨4 * n + i.val, hi⟩ := Fin.ext (by show n * 4 + i.val = 4 * n + i.val; omega)
    rw [imageGap, dif_pos hi]
    refine Finset.sum_congr rfl fun k _ => Finset.sum_congr rfl fun p _ => ?_
    rw [outQ_apply, block_images m c ⟨n, h⟩ (imageAt ⟨n, h⟩ i) i rfl, e]
    rfl
  induction n with
  | zero =>
    show sumStep _ _ _ _ = _
    rw [step]
    unfold k0_pay13
    pointwise
    simp [Finset.sum_range_succ, Fin.sum_univ_four]
  | succ n ih =>
    show sumStep _ _ _ _ = _
    rw [step, ih (Nat.lt_of_succ_lt h), show 4 * (n + 1 + 1) = 4 * (n + 1) + 4 from by ring, Finset.sum_range_add]
    rw [Finset.sum_range (n := 4)]

/-- The array of chosen rows after the run. -/
theorem final3 : (dats m 0 c).arrAt 3 (cfgs 0).N
    = fun i : S16x64x1024.Idx => rows m c (choice (rows m c) (pixels m c) (i 0) (i 2)) (i 1) := by
  refine (dats m 0 c).arrAt_eq_of_covers 3 _ (by decide +kernel) fun t hf y => ?_
  blk_simp
  rw [after3]
  idx_vars y
  rw [outQ_apply]
  have e0 : ((View.whole main_v7_0).slice (win0_3.rect t)).emb (ix3 y0 y1 y2) 0 = imageAt t y0 := by
    apply Fin.ext; blk_simp [idx t]; rfl
  have e1 : ((View.whole main_v7_0).slice (win0_3.rect t)).emb (ix3 y0 y1 y2) 1 = y1 := by
    apply Fin.ext; blk_simp [idx t]
  have e2 : ((View.whole main_v7_0).slice (win0_3.rect t)).emb (ix3 y0 y1 y2) 2 = y2 := by
    apply Fin.ext; blk_simp [idx t]
  rw [e0, e1, e2]

/-- The array of chosen rows' numbers after the run. -/
theorem final4 : (dats m 0 c).arrAt 4 (cfgs 0).N
    = fun i : S16x1x1024.Idx => BitVec.ofNat 32 (choice (rows m c) (pixels m c) (i 0) (i 2)).val := by
  refine (dats m 0 c).arrAt_eq_of_covers 4 _ (by decide +kernel) fun t hf y => ?_
  blk_simp
  rw [after4]
  idx_vars y
  rw [show y1 = 0 from Subsingleton.elim _ _, outI_apply]
  have e0 : ((View.whole main_v7_1).slice (win0_4.rect t)).emb (ix3 y0 0 y2) 0 = imageAt t y0 := by
    apply Fin.ext; blk_simp [idx t]; rfl
  have e2 : ((View.whole main_v7_1).slice (win0_4.rect t)).emb (ix3 y0 0 y2) 2 = y2 := by
    apply Fin.ext; blk_simp [idx t]
  rw [e0, e2]

/-- The last point. -/
def pLast : Fin cfg0.N := ⟨3, by rw [show cfg0.N = 4 from N_0]; decide⟩

/-- The loss's array after the run. -/
theorem final5 : (dats m 0 c).arrAt 5 (cfgs 0).N = fun _ : S1x1.Idx => loss (rows m c) (pixels m c) := by
  refine (dats m 0 c).arrAt_eq_of_after_last 5 pLast (by decide +kernel) _ fun j => ?_
  blk_simp
  rw [after5]
  idx_vars j
  rw [show j0 = 0 from Subsingleton.elim _ _, show j1 = 0 from Subsingleton.elim _ _]
  rw [loss_apply, sumAt_apply, loss, total]
  have e : ∑ b ∈ Finset.range (4 * (pLast.val + 1)), imageGap m c b
      = ∑ b : Fin 16, ∑ k, ∑ p, gap (rows m c (choice (rows m c) (pixels m c) b p) k) (pixels m c b k p) := by
    show ∑ b ∈ Finset.range 16, imageGap m c b = _
    rw [Finset.sum_range]
    exact Finset.sum_congr rfl fun b _ => dif_pos b.isLt
  rw [e]

/-! ## The three results -/

/-- The host part after the launch, from the arrays the launch leaves. -/
def left (b : Ref sig .tc) : Buf (Elt Ideal) ((c : Thread nD τ).loc b) :=
  Pipeline.afterTail₀ cfgs (dats m) 0 (V0 m) [hostOps1] c b

/-- The first result: the chosen rows, image by image. -/
theorem result1 (b : Fin 16) (k : Fin 64) (h w : Fin 32) :
    (left m c main_v8 : Vec Ideal S16x64x32x32 .f32) (ix4 b k h w)
      = rows m c (choice (rows m c) (pixels m c) b (place h w)) k := by
  have e : Pipeline.withArrays (cfgs 0).spec c (V0 m c) (fun w => (dats m 0 c).arrAt w (cfgs 0).N) (Proc.devRef .tc main_v7_0)
      = fun i : S16x64x1024.Idx => rows m c (choice (rows m c) (pixels m c) (i 0) (i 2)) (i 1) :=
    (Pipeline.withArrays_arr spec0 (by decide) c _ _ 3).trans (final3 m c)
  show StableHlo.after ([hostOps1].flatten) _ _ _ = _
  simp only [List.flatten_cons, List.flatten_nil, List.append_nil]
  after_reads_at
  rw [e]
  rfl

/-- The second result: their numbers. -/
theorem result2 (b : Fin 16) (h w : Fin 32) :
    (left m c main_v9 : Vec Ideal S16x32x32 .i32) (ix3 b h w)
      = BitVec.ofNat 32 (choice (rows m c) (pixels m c) b (place h w)).val := by
  have e : Pipeline.withArrays (cfgs 0).spec c (V0 m c) (fun w => (dats m 0 c).arrAt w (cfgs 0).N) (Proc.devRef .tc main_v7_1)
      = fun i : S16x1x1024.Idx => BitVec.ofNat 32 (choice (rows m c) (pixels m c) (i 0) (i 2)).val :=
    (Pipeline.withArrays_arr spec0 (by decide) c _ _ 4).trans (final4 m c)
  show StableHlo.after ([hostOps1].flatten) _ _ _ = _
  simp only [List.flatten_cons, List.flatten_nil, List.append_nil]
  after_reads_at
  rw [e]
  rfl

/-- The third result: the loss. -/
theorem result3 (i : S_.Idx) : (left m c main_v10 : Vec Ideal S_ .f32) i = loss (rows m c) (pixels m c) := by
  have e : Pipeline.withArrays (cfgs 0).spec c (V0 m c) (fun w => (dats m 0 c).arrAt w (cfgs 0).N) (Proc.devRef .tc main_v7_2)
      = fun _ : S1x1.Idx => loss (rows m c) (pixels m c) :=
    (Pipeline.withArrays_arr spec0 (by decide) c _ _ 5).trans (final5 m c)
  show StableHlo.after ([hostOps1].flatten) _ _ _ = _
  simp only [List.flatten_cons, List.flatten_nil, List.append_nil]
  after_reads_at
  rw [e]

end Cert.KernelIdeal.Vq

end
-- ==== Proof.Argmin.lean ====
/- The reference's search for the closest code, and its taking of that code. -/
module

public import proofs.«01_k».proof.Proof.Reference
public import proofs.«01_k».proof.Proof.Closest
public import Idealize.ShloMosaic.Lib.Pointwise
public import Idealize.ShloMosaic.Lib.StableHlo.ReadAt
public import Idealize.ShloMosaic.PureOps.Ideal.Laws

@[expose] public section

set_option maxRecDepth 16384

noncomputable section

namespace Cert.ReferenceIdeal.Vq

open Idealize.ShloMosaic Idealize.SL.Sem Idealize.ShloMosaic.StableHlo
open Cert.ReferenceIdeal Cert.ReferenceIdeal.Facts₀ Cert.ReferenceIdeal.Facts Cert.Vq

/-- `p` comes no later than `q`: at a lesser distance, or at the same distance with no greater number. -/
def NoLater (p q : EReal × BitVec 32) : Prop := p.1 < q.1 ∨ p.1 = q.1 ∧ p.2.toInt ≤ q.2.toInt

theorem NoLater.refl (p : EReal × BitVec 32) : NoLater p p := .inr ⟨rfl, le_rfl⟩

theorem NoLater.trans {p q r : EReal × BitVec 32} (h : NoLater p q) (h' : NoLater q r) : NoLater p r := by
  rcases h with h | ⟨h, hn⟩ <;> rcases h' with h' | ⟨h', hn'⟩
  · exact .inl (h.trans h')
  · exact .inl (h' ▸ h)
  · exact .inl (h ▸ h')
  · exact .inr ⟨h.trans h', hn.trans hn'⟩

/-- One step keeps one of its two pairs, and it comes no later than either. -/
theorem step_spec (p q : EReal × BitVec 32) :
    (reducer_argmin_f32_i32 (F := Ideal) p q = p ∨ reducer_argmin_f32_i32 (F := Ideal) p q = q)
      ∧ NoLater (reducer_argmin_f32_i32 (F := Ideal) p q) p ∧ NoLater (reducer_argmin_f32_i32 (F := Ideal) p q) q := by
  obtain ⟨a, i⟩ := p
  obtain ⟨b, j⟩ := q
  have e1 : FloatOps.cmpf (F := Ideal) (φ := .f32) .olt a b = BitVec.ofBool (decide (a < b)) := rfl
  have e2 : FloatOps.cmpf (F := Ideal) (φ := .f32) .une a a = BitVec.ofBool (decide (a ≠ a)) := rfl
  have e3 : FloatOps.cmpf (F := Ideal) (φ := .f32) .oeq a b = BitVec.ofBool (decide (a = b)) := rfl
  have e4 : IntOp.cmpi .slt i j = BitVec.ofBool (decide (i.toInt < j.toInt)) := rfl
  unfold reducer_argmin_f32_i32
  simp only [e1, e2, e3, e4]
  rcases lt_trichotomy a b with h | h | h
  · simp [h, h.ne, IntOp.ori, IntOp.andi, Scalar.select, NoLater]
  · subst h
    by_cases hn : i.toInt < j.toInt
    · simp [hn, IntOp.ori, IntOp.andi, Scalar.select, NoLater]
      exact hn.le
    · simp [hn, IntOp.ori, IntOp.andi, Scalar.select, NoLater]
      exact not_lt.mp hn
  · simp [h, h.ne', h.not_gt, IntOp.ori, IntOp.andi, Scalar.select, NoLater]

/-- A fold of such steps keeps one of the pairs it meets, and it comes no later than any of them. -/
theorem fold_spec (L : List (EReal × BitVec 32)) (p : EReal × BitVec 32) :
    (L.foldl (reducer_argmin_f32_i32 (F := Ideal)) p = p ∨ L.foldl (reducer_argmin_f32_i32 (F := Ideal)) p ∈ L)
      ∧ NoLater (L.foldl (reducer_argmin_f32_i32 (F := Ideal)) p) p ∧ ∀ q ∈ L, NoLater (L.foldl (reducer_argmin_f32_i32 (F := Ideal)) p) q := by
  induction L generalizing p with
  | nil => exact ⟨.inl rfl, .refl p, fun q h => absurd h List.not_mem_nil⟩
  | cons x L ih =>
    obtain ⟨hs, hp, hx⟩ := step_spec p x
    obtain ⟨h1, h2, h3⟩ := ih (reducer_argmin_f32_i32 (F := Ideal) p x)
    rw [List.foldl_cons]
    refine ⟨?_, h2.trans hp, fun q hq => ?_⟩
    · rcases h1 with h1 | h1
      · rcases hs with hs | hs
        · exact .inl (h1.trans hs)
        · exact .inr (by rw [h1, hs]; exact List.mem_cons_self)
      · exact .inr (List.mem_cons_of_mem _ h1)
    · rcases List.mem_cons.mp hq with rfl | hq
      · exact h2.trans hx
      · exact h3 q hq

/-- Where a list holds every row's distance and number, the fold from the greatest number and zero ends at the closest. -/
theorem fold_closest (d : Fin 1024 → EReal) (L : List (EReal × BitVec 32))
    (hL : ∀ q, q ∈ L ↔ ∃ j : Fin 1024, q = (d j, BitVec.ofNat 32 j.val)) :
    (L.foldl (reducer_argmin_f32_i32 (F := Ideal)) (⊤, 0#32)).2 = BitVec.ofNat 32 (closest d).val := by
  have hv : ∀ j : Fin 1024, (BitVec.ofNat 32 j.val).toInt = j.val := fun j => by
    have := j.isLt
    rw [BitVec.toInt_eq_toNat_cond, BitVec.toNat_ofNat]
    omega
  obtain ⟨h1, -, h3⟩ := fold_spec L (⊤, 0#32)
  have hj : ∀ j, NoLater (L.foldl (reducer_argmin_f32_i32 (F := Ideal)) (⊤, 0#32)) (d j, BitVec.ofNat 32 j.val) :=
    fun j => h3 _ ((hL _).mpr ⟨j, rfl⟩)
  rcases h1 with h1 | h1
  · rw [h1] at hj ⊢
    have htop : ∀ j, d j = ⊤ := fun j => by
      rcases hj j with h | ⟨h, -⟩
      · exact absurd h not_top_lt
      · exact h.symm
    have h0 : closest d = 0 := by
      by_contra hne
      have := closest_lt d 0 (Fin.pos_iff_ne_zero.mpr hne)
      rw [htop, htop] at this
      exact lt_irrefl _ this
    rw [h0]
    rfl
  · obtain ⟨j, e⟩ := (hL _).mp h1
    rw [e] at hj ⊢
    have : closest d = j := by
      refine (eq_closest (fun i => ?_) (fun i hi => ?_)).symm
      · rcases hj i with h | ⟨h, -⟩
        · exact le_of_lt h
        · exact le_of_eq h
      · rcases hj i with h | ⟨-, h⟩
        · exact h
        · simp only [hv] at h
          have := Fin.lt_def.mp hi
          omega
    rw [this]

/-- The pairs the reduction meets for a row: every code's distance and number. -/
theorem fiber_mem (x : S16384x1024.Idx → EReal) (y : S16384x1024.Idx → BitVec 32) (r : Fin 16384) (q : EReal × BitVec 32) :
    q ∈ Host.argReduceFiber x y reducesTo_S16384x1024_S16384_d1 (ix1 r) ↔ ∃ j : Fin 1024, q = (x (ix2 r j), y (ix2 r j)) := by
  unfold Host.argReduceFiber
  simp only [List.mem_map, List.mem_filter, List.mem_finRange, true_and, decide_eq_true_eq]
  constructor
  · rintro ⟨n, hn, rfl⟩
    generalize S16384x1024.rowMajor.symm n = i at hn ⊢
    idx_vars i
    refine ⟨i1, ?_⟩
    have h0 := Shape.ReducesTo.drop_apply_val_of_eq reducesTo_S16384x1024_S16384_d1 (ix2 i0 i1) 0 0 (by decide)
    rw [hn] at h0
    have : i0 = r := Fin.ext h0.symm
    rw [this]
  · rintro ⟨j, rfl⟩
    refine ⟨S16384x1024.rowMajor (ix2 r j), ?_, by simp⟩
    rw [Equiv.symm_apply_apply]
    funext b
    obtain rfl : b = 0 := Fin.ext (by have := b.isLt; change b.val < 1 at this; show b.val = 0; omega)
    exact Fin.ext (Shape.ReducesTo.drop_apply_val_of_eq reducesTo_S16384x1024_S16384_d1 (ix2 r j) 0 0 (by decide))

variable (V : Valuation τ sig (Elt Ideal))

/-- The codebook. -/
def book : Vec Ideal S1024x64 .f32 := V (Proc.devRef .tc main_arg1)

/-- The distances. -/
def distances : Vec Ideal S16384x1024 .f32 := V (Proc.devRef .tc main_v23)

/-- The chosen numbers. -/
def numbers : Vec Ideal S16384 .i32 := V (Proc.devRef .tc main_v24)

/-- The chosen rows. -/
def taken : Vec Ideal S16384x64 .f32 := V (Proc.devRef .tc main_v25)

/-- A code's number read as a signed integer. -/
theorem number_toInt (j : Fin 1024) : (BitVec.ofNat 32 j.val).toInt = j.val := by
  have := j.isLt
  rw [BitVec.toInt_eq_toNat_cond, BitVec.toNat_ofNat]
  omega

/-- A code's number is not negative, -/
theorem number_slt (j : Fin 1024) : IntOp.cmpi .slt (BitVec.ofNat 32 j.val) 0#32 = 0#1 := by
  show BitVec.ofBool (decide ((BitVec.ofNat 32 j.val).toInt < (0#32).toInt)) = 0#1
  rw [decide_eq_false (by rw [number_toInt]; change ¬ (j.val : ℤ) < 0; omega)]
  rfl

/-- is at least zero, -/
theorem number_sge (j : Fin 1024) : IntOp.cmpi .sge (BitVec.ofNat 32 j.val) 0#32 = 1#1 := by
  show BitVec.ofBool (decide ((0#32).toInt ≤ (BitVec.ofNat 32 j.val).toInt)) = 1#1
  rw [decide_eq_true (by rw [number_toInt]; change (0 : ℤ) ≤ (j.val : ℤ); omega)]
  rfl

/-- and at most the last code's. -/
theorem number_sle (j : Fin 1024) : IntOp.cmpi .sle (BitVec.ofNat 32 j.val) 1023#32 = 1#1 := by
  have := j.isLt
  show BitVec.ofBool (decide ((BitVec.ofNat 32 j.val).toInt ≤ (1023#32).toInt)) = 1#1
  rw [decide_eq_true (by rw [number_toInt]; change (j.val : ℤ) ≤ 1023; omega)]
  rfl

/-- Axis one is not among the axes a number picks along. -/
theorem one_not_mem : (1 : Fin 2) ∉ [(0 : Fin 2)] := by decide

/-- Taking rows of a table by number: where a row's number is a code's, every entry is that code's. -/
theorem gather_number (x : S1024x64.Idx → EReal) (n : IVec S16384x1 32) (r : Fin 16384) (k : Fin 64) (j : Fin 1024)
    (hn : n (ix2 r 0) = BitVec.ofNat 32 j.val) :
    Host.gather gather_S1024x64_S16384x1_S16384x64_1_0_n_n_0_1_164 x n (ix2 r k) = x (ix2 j k) := by
  have hj := j.isLt
  unfold Host.gather
  refine congrArg x (funext fun a => Fin.ext ?_)
  show GatherDims.start _ (ix2 r k) n a + GatherDims.batchCoord _ (ix2 r k) a + GatherDims.offCoord _ (ix2 r k) a = _
  rw [GatherDims.batchCoord_eq_zero _ _ _ List.not_mem_nil]
  obtain rfl | rfl : a = 0 ∨ a = 1 := by
    match a with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    unfold GatherDims.start
    rw [dif_pos (show (0 : Fin 2) ∈ gather_S1024x64_S16384x1_S16384x64_1_0_n_n_0_1_164.startIndexMap from List.mem_singleton.mpr rfl)]
    have hs : ∀ c, GatherDims.siIdx gather_S1024x64_S16384x1_S16384x64_1_0_n_n_0_1_164 (ix2 r k) c = ix2 r 0 := fun c => by
      funext b
      match b with
      | ⟨0, _⟩ => rfl
      | ⟨1, _⟩ => exact Fin.ext (by have := c.isLt; change c.val < 1 at this; show c.val = 0; omega)
    rw [hs, hn, number_toInt]
    show min ((j.val : ℤ)).toNat (1024 - 1) + 0 + 0 = j.val
    omega
  · unfold GatherDims.start
    rw [dif_neg (show (1 : Fin 2) ∉ gather_S1024x64_S16384x1_S16384x64_1_0_n_n_0_1_164.startIndexMap from one_not_mem)]
    unfold GatherDims.offCoord
    rw [dif_pos ((GatherDims.mem_sKept _ _).mpr ⟨one_not_mem, List.not_mem_nil⟩)]
    show 0 + 0 + k.val = k.val
    omega

/-- Every row's number is its closest code's. -/
theorem numbers_apply (r : Fin 16384) :
    numbers (after argminOps V) (ix1 r) = BitVec.ofNat 32 (closest fun j => distances V (ix2 r j)).val := by
  unfold numbers argminOps
  after_reads_simp
  rw [Ideal.argReduce_eq_reduce2, Host.reduce2_eq_foldl_fiber]
  have ht : constant (F := Ideal) S_ .f32 2139095040#32 (Shape.Idx.first h_S_) = (⊤ : EReal) := by
    show Ideal.ofBits .f32 2139095040#32 = ⊤
    simp [Ideal.ofBits, Ideal.ieee]
  rw [ht]
  refine fold_closest _ _ fun q => ?_
  refine (fiber_mem _ _ r q).trans (exists_congr fun j => ?_)
  rfl

/-- Where a row's number is a code's, the row taken is that code. -/
theorem taken_apply (r : Fin 16384) (k : Fin 64) (j : Fin 1024) (hj : numbers V (ix1 r) = BitVec.ofNat 32 j.val) :
    taken (after takeOps V) (ix2 r k) = book V (ix2 j k) := by
  unfold taken takeOps
  after_reads_at
  unfold numbers at hj
  have h0 : ∀ a b : BitVec 32, Scalar.select 0#1 a b = b := fun _ _ => rfl
  rw [hj, number_slt, h0, number_sge, number_sle]
  show Scalar.select (Finset.fold IntOp.andi 1#1 (fun _ => 1#1) (Finset.univ : Finset (Fin 1))) _ _ = _
  rw [show Finset.fold IntOp.andi 1#1 (fun _ => 1#1) (Finset.univ : Finset (Fin 1)) = 1#1 from rfl]
  refine Eq.trans (b := Host.gather gather_S1024x64_S16384x1_S16384x64_1_0_n_n_0_1_164 _ _ (ix2 r k)) rfl ?_
  rw [gather_number _ _ r k j ?_]
  · rfl
  · pointwise
    rw [hj, number_slt, h0]

end Cert.ReferenceIdeal.Vq

end
-- ==== Proof.Stages.lean ====
/- What each stage of the reference leaves, over the extended reals, at an index. -/
module

public import proofs.«01_k».proof.Proof.Argmin

@[expose] public section

set_option maxRecDepth 16384

noncomputable section

namespace Cert.ReferenceIdeal.Vq

open Idealize.ShloMosaic Idealize.SL.Sem Idealize.ShloMosaic.StableHlo
open Cert.ReferenceIdeal Cert.ReferenceIdeal.Facts₀ Cert.ReferenceIdeal.Facts Cert.Vq

variable (V : Valuation τ sig (Elt Ideal))

/-- The images. -/
def images : Vec Ideal S16x64x32x32 .f32 := V (Proc.devRef .tc main_arg0)

/-- The rows the images are cut into. -/
def vectors : Vec Ideal S16384x64 .f32 := V (Proc.devRef .tc main_v1)

/-- The rows divided by their lengths. -/
def unitVectors : Vec Ideal S16384x64 .f32 := V (Proc.devRef .tc main_v5)

/-- The codebook's rows divided by their lengths. -/
def unitCodes : Vec Ideal S1024x64 .f32 := V (Proc.devRef .tc main_v9)

/-- The chosen rows as images. -/
def chosen : Vec Ideal S16x64x32x32 .f32 := V (Proc.devRef .tc main_v27)

/-- The first result, -/
def out1 : Vec Ideal S16x64x32x32 .f32 := V (Proc.devRef .tc main_v40)

/-- the second, -/
def out2 : Vec Ideal S16x32x32 .i32 := V (Proc.devRef .tc main_v41)

/-- and the third. -/
def out3 : Vec Ideal S_ .f32 := V (Proc.devRef .tc main_v38)

/-- The row of a pixel of an image. -/
def row (b : Fin 16) (p : Fin 1024) : Fin 16384 := ⟨b.val * 1024 + p.val, by omega⟩

/-- A row is a pixel's channels. -/
theorem vectors_apply (b : Fin 16) (p : Fin 1024) (k : Fin 64) :
    vectors (after rowOps V) (ix2 (row b p) k) = images V (ix4 b k ⟨p.val / 32, by omega⟩ ⟨p.val % 32, by omega⟩) := by
  unfold vectors rowOps
  after_reads_at
  have h1 : (b.val * 1024 + p.val) / 1024 = b.val := by omega
  have h2 : (b.val * 1024 + p.val) / 32 % 32 = p.val / 32 := by omega
  have h3 : (b.val * 1024 + p.val) % 32 = p.val % 32 := by omega
  simp only [row, h1, h2, h3]
  rfl

/-- A row divided by its length. -/
theorem unitVectors_apply (r : Fin 16384) (k : Fin 64) :
    unitVectors (after unitRowOps V) (ix2 r k) = unit (fun k => vectors V (ix2 r k)) k := by
  unfold unitVectors unitRowOps
  after_reads_at
  rfl

/-- A code divided by its length. -/
theorem unitCodes_apply (j : Fin 1024) (k : Fin 64) :
    unitCodes (after unitCodeOps V) (ix2 j k) = unit (fun k => book V (ix2 j k)) k := by
  unfold unitCodes unitCodeOps
  after_reads_at
  rfl

/-- The distance of a row and a code, both divided by their lengths. -/
theorem distances_apply (r : Fin 16384) (j : Fin 1024) (v w : Fin 64 → EReal)
    (hv : ∀ k, unitVectors V (ix2 r k) = unit v k) (hw : ∀ k, unitCodes V (ix2 j k) = unit w k) :
    distances (after distanceOps V) (ix2 r j) = dist v w := by
  unfold unitVectors at hv
  unfold unitCodes at hw
  unfold distances distanceOps
  after_reads_at
  simp only [hv, hw]
  have h2 : Ideal.ofBits .f32 1073741824#32 = 2 := by
    simp [Ideal.ofBits, Ideal.ieee, -EReal.coe_mul]
    norm_num
    rfl
  rw [h2, ← two_mul_sum]
  rfl

/-- The chosen rows as images: a pixel's channels are its row. -/
theorem chosen_apply (b : Fin 16) (k : Fin 64) (h w : Fin 32) :
    chosen (after imageOps V) (ix4 b k h w) = taken V (ix2 (row b (place h w)) k) := by
  unfold chosen imageOps
  after_reads_at
  have : (⟨b.val * 1024 + h.val * 32 + w.val, by omega⟩ : Fin 16384) = row b (place h w) :=
    Fin.ext (by show _ = b.val * 1024 + (h.val * 32 + w.val); simp only; omega)
  rw [← this]
  rfl

/-- The first result is the image plus its difference from the chosen rows. -/
theorem out1_apply (b : Fin 16) (k : Fin 64) (h w : Fin 32) :
    out1 (after resultOps V) (ix4 b k h w)
      = images V (ix4 b k h w) + (chosen V (ix4 b k h w) - images V (ix4 b k h w)) := by
  unfold out1 resultOps
  after_reads_at
  rfl

/-- The second is the numbers, a pixel's at its place. -/
theorem out2_apply (b : Fin 16) (h w : Fin 32) :
    out2 (after resultOps V) (ix3 b h w) = numbers V (ix1 (row b (place h w))) := by
  unfold out2 resultOps
  after_reads_at
  have : (⟨b.val * 1024 + h.val * 32 + w.val, by omega⟩ : Fin 16384) = row b (place h w) :=
    Fin.ext (by show _ = b.val * 1024 + (h.val * 32 + w.val); simp only; omega)
  rw [← this]
  rfl

/-- The third is the clamped sum of the mean squared difference and a quarter of it. -/
theorem out3_apply (i : S_.Idx) (S : EReal)
    (hS : ∑ n, gap (chosen V n) (images V n) = S) :
    out3 (after lossOps V) i = min (Ideal.ofBits .f32 1084227584#32) (max 0 (Ideal.div S (Ideal.ofBits .f32 1233125376#32)
      + Ideal.ofBits .f32 1048576000#32 * Ideal.div S (Ideal.ofBits .f32 1233125376#32))) := by
  unfold chosen images at hS
  unfold out3 lossOps
  after_reads_at
  rw [Ideal.hostReduceAdd_total _ (fun b => b.elim0)]
  have hz : Finset.sum (M := EReal) Finset.univ (mulf (F := Ideal) (s := S16x64x32x32) (φ := .f32) (subf (V (Proc.devRef .tc main_v27)) (V (Proc.devRef .tc main_arg0)))
      (subf (V (Proc.devRef .tc main_v27)) (V (Proc.devRef .tc main_arg0)))) = S := hS
  have h0 : (0 : EReal) = Ideal.ofBits .f32 0#32 := by simp [Ideal.ofBits, Ideal.ieee]
  rw [hz, zero_add]
  conv_rhs => rw [h0]
  rfl

/-- The mean and a quarter of it are five quarters of it. -/
theorem quarters (S : EReal) (h : 0 ≤ S) :
    Ideal.div S (Ideal.ofBits .f32 1233125376#32)
      + Ideal.ofBits .f32 1048576000#32 * Ideal.div S (Ideal.ofBits .f32 1233125376#32)
      = Ideal.div (Ideal.ofBits .f32 1067450368#32 * S) (Ideal.ofBits .f32 1233125376#32) := by
  have h1 : Ideal.ofBits .f32 1233125376#32 = ((1048576 : ℝ) : EReal) := by
    simp [Ideal.ofBits, Ideal.ieee, -EReal.coe_mul]
    norm_num
  have h2 : Ideal.ofBits .f32 1048576000#32 = ((1/4 : ℝ) : EReal) := by
    simp [Ideal.ofBits, Ideal.ieee, -EReal.coe_mul]
    norm_num
  have h3 : Ideal.ofBits .f32 1067450368#32 = ((5/4 : ℝ) : EReal) := by
    simp [Ideal.ofBits, Ideal.ieee, -EReal.coe_mul]
    norm_num
  have hne : ((1048576 : ℝ) : EReal) ≠ 0 := by norm_cast
  simp only [h1, h2, h3, Ideal.div, if_neg hne, ← EReal.coe_inv]
  induction S with
  | bot => exact absurd h (by simp)
  | coe r =>
    norm_cast
    ring
  | top =>
    have hp : ∀ r : ℝ, 0 < r → (r : EReal) * ⊤ = ⊤ := fun r hr => EReal.coe_mul_top_of_pos hr
    have hq : ∀ r : ℝ, 0 < r → ⊤ * (r : EReal) = ⊤ := fun r hr => EReal.top_mul_coe_of_pos hr
    rw [hq _ (by norm_num), hp _ (by norm_num), hp _ (by norm_num), hq _ (by norm_num)]
    rfl

end Cert.ReferenceIdeal.Vq

end
-- ==== Proof.Results.lean ====
/- The reference's three results, from its arguments. -/
module

public import proofs.«01_k».proof.Proof.Stages

@[expose] public section

set_option maxRecDepth 16384

noncomputable section

namespace Cert.ReferenceIdeal.Vq

open Idealize.ShloMosaic Idealize.SL.Sem Idealize.ShloMosaic.StableHlo
open Cert.ReferenceIdeal Cert.ReferenceIdeal.Facts₀ Cert.ReferenceIdeal.Facts Cert.Vq

variable (V : Valuation τ sig (Elt Ideal))

/-! ## The buffers after each stage -/

/-- After the rows are cut out, -/
def s1 : Valuation τ sig (Elt Ideal) := after rowOps V
/-- divided by their lengths, -/
def s2 : Valuation τ sig (Elt Ideal) := after unitRowOps (s1 V)
/-- after the codes are, -/
def s3 : Valuation τ sig (Elt Ideal) := after unitCodeOps (s2 V)
/-- after the distances, -/
def s4 : Valuation τ sig (Elt Ideal) := after distanceOps (s3 V)
/-- the numbers, -/
def s5 : Valuation τ sig (Elt Ideal) := after argminOps (s4 V)
/-- the rows taken, -/
def s6 : Valuation τ sig (Elt Ideal) := after takeOps (s5 V)
/-- laid out as images, -/
def s7 : Valuation τ sig (Elt Ideal) := after imageOps (s6 V)
/-- after the loss, -/
def s8 : Valuation τ sig (Elt Ideal) := after lossOps (s7 V)
/-- and at the end. -/
def s9 : Valuation τ sig (Elt Ideal) := after resultOps (s8 V)

theorem end_eq : after ops V = s9 V := by
  simp only [ops, after_append]
  rfl

/-- What a stage does not write is as it was. -/
theorem images_s7 : images (s7 V) = images V := by
  unfold images s7 s6 s5 s4 s3 s2 s1 imageOps takeOps argminOps distanceOps unitCodeOps unitRowOps rowOps
  after_reads_simp

theorem images_s8 : images (s8 V) = images V := by
  refine Eq.trans ?_ (images_s7 V)
  unfold images s8 lossOps
  after_reads_simp

theorem book_s2 : book (s2 V) = book V := by
  unfold book s2 s1 unitRowOps rowOps
  after_reads_simp

theorem book_s5 : book (s5 V) = book V := by
  refine Eq.trans ?_ (book_s2 V)
  unfold book s5 s4 s3 argminOps distanceOps unitCodeOps
  after_reads_simp

theorem unitVectors_s3 : unitVectors (s3 V) = unitVectors (s2 V) := by
  unfold unitVectors s3 unitCodeOps
  after_reads_simp

theorem numbers_s8 : numbers (s8 V) = numbers (s5 V) := by
  unfold numbers s8 s7 s6 lossOps imageOps takeOps
  after_reads_simp

theorem chosen_s8 : chosen (s8 V) = chosen (s7 V) := by
  unfold chosen s8 lossOps
  after_reads_simp

theorem out3_s9 : out3 (s9 V) = out3 (s8 V) := by
  unfold out3 s9 resultOps
  after_reads_simp

/-! ## The results -/

/-- The codebook's rows. -/
def codes (j : Fin 1024) (k : Fin 64) : EReal := book V (ix2 j k)

/-- The images' channels at a place. -/
def pixels (b : Fin 16) (k : Fin 64) (p : Fin 1024) : EReal :=
  images V (ix4 b k ⟨p.val / 32, by omega⟩ ⟨p.val % 32, by omega⟩)

/-- The channels at a row and a column. -/
theorem pixels_place (b : Fin 16) (k : Fin 64) (h w : Fin 32) : pixels V b k (place h w) = images V (ix4 b k h w) := by
  have h1 : (⟨(place h w).val / 32, by have := (place h w).isLt; omega⟩ : Fin 32) = h :=
    Fin.ext (by show (h.val * 32 + w.val) / 32 = h.val; omega)
  have h2 : (⟨(place h w).val % 32, by omega⟩ : Fin 32) = w :=
    Fin.ext (by show (h.val * 32 + w.val) % 32 = w.val; omega)
  unfold pixels
  rw [h1, h2]

/-- The distance the reference finds is the distance of the pixel and the code. -/
theorem distances_s4 (b : Fin 16) (p : Fin 1024) (j : Fin 1024) :
    distances (s4 V) (ix2 (row b p) j) = dist (fun k => pixels V b k p) (codes V j) := by
  refine distances_apply (s3 V) _ _ _ _ (fun k => ?_) (fun k => ?_)
  · rw [unitVectors_s3]
    refine (unitVectors_apply (s1 V) _ k).trans (congrArg (fun v => unit v k) (funext fun k' => ?_))
    exact vectors_apply V b p k'
  · refine (unitCodes_apply (s2 V) _ k).trans (congrArg (fun v => unit v k) (funext fun k' => ?_))
    rw [book_s2]
    rfl

/-- The number the reference finds is the closest code's. -/
theorem numbers_s5 (b : Fin 16) (p : Fin 1024) :
    numbers (s5 V) (ix1 (row b p)) = BitVec.ofNat 32 (choice (codes V) (pixels V) b p).val := by
  refine (numbers_apply (s4 V) _).trans ?_
  simp only [distances_s4]
  rfl

/-- The images of the rows taken. -/
theorem chosen_s7 (b : Fin 16) (k : Fin 64) (h w : Fin 32) :
    chosen (s7 V) (ix4 b k h w) = codes V (choice (codes V) (pixels V) b (place h w)) k := by
  refine (chosen_apply (s6 V) b k h w).trans ?_
  refine (taken_apply (s5 V) _ k _ (numbers_s5 V b (place h w))).trans ?_
  rw [book_s5]
  rfl

/-- The second result: the numbers of the closest codes. -/
theorem result2 (b : Fin 16) (h w : Fin 32) :
    out2 (after ops V) (ix3 b h w) = BitVec.ofNat 32 (choice (codes V) (pixels V) b (place h w)).val := by
  rw [end_eq]
  refine (out2_apply (s8 V) b h w).trans ?_
  rw [numbers_s8, numbers_s5]

/-- The first result: the closest codes, where the images are finite. -/
theorem result1 (b : Fin 16) (k : Fin 64) (h w : Fin 32) (hz : ∃ r : ℝ, images V (ix4 b k h w) = (r : EReal)) :
    out1 (after ops V) (ix4 b k h w) = codes V (choice (codes V) (pixels V) b (place h w)) k := by
  rw [end_eq]
  refine (out1_apply (s8 V) b k h w).trans ?_
  rw [images_s8, chosen_s8, chosen_s7]
  obtain ⟨r, hr⟩ := hz
  rw [hr]
  generalize codes V _ k = q
  induction q with
  | bot => simp
  | coe q =>
    rw [← EReal.coe_sub, ← EReal.coe_add]
    exact congrArg _ (by ring)
  | top => simp

/-- The third: the loss. -/
theorem result3 (i : S_.Idx) : out3 (after ops V) i = loss (codes V) (pixels V) := by
  rw [end_eq, out3_s9]
  refine (out3_apply (s7 V) i (total (codes V) (pixels V)) ?_).trans ?_
  · rw [images_s7, sum_idx4]
    unfold total
    refine Finset.sum_congr rfl fun b _ => Finset.sum_congr rfl fun k _ => ?_
    rw [Fin.sum_univ_tiles 32 32 rfl]
    refine Finset.sum_congr rfl fun h _ => Finset.sum_congr rfl fun w _ => ?_
    refine Eq.trans ?_ (congrArg (fun p => gap (codes V (choice (codes V) (pixels V) b p) k) (pixels V b k p)) (show place h w = _ from rfl))
    show _ = gap (codes V (choice (codes V) (pixels V) b (place h w)) k) (pixels V b k (place h w))
    rw [chosen_s7, pixels_place]
  · rw [quarters _ (total_nonneg _ _)]
    rfl

end Cert.ReferenceIdeal.Vq

end
-- ==== Proof.Equal.lean ====
/- The kernel's results and the reference's are equal, over the extended reals, where the images are finite. -/
module

public import proofs.«01_k».proof.Defs
public import proofs.«01_k».proof.Proof.Arrays
public import proofs.«01_k».proof.Proof.Results

@[expose] public section

set_option maxRecDepth 16384

noncomputable section

namespace Cert.Proof

open Idealize.ShloMosaic Idealize.SL.Sem Idealize.ShloMosaic.StableHlo
open Cert.Vq

/-- The shape relation the precondition's comparison takes. -/
theorem pre_facts : Cert.Pre_finite_z.Facts := ⟨by decide⟩

/-- Where the precondition holds of the images, each of their entries is a real number. -/
theorem finite_entry (hp : Cert.Pre_finite_z.Facts) (z : Vec Ideal Cert.KernelIdeal.S16x64x32x32 .f32)
    (e : Vec Ideal Cert.KernelIdeal.S1024x64 .f32) (h : Cert.Pre_finite_z.fn (F := Ideal) z e = fun _ => 1#1)
    (i : Cert.KernelIdeal.S16x64x32x32.Idx) : ∃ r : ℝ, z i = (r : EReal) := by
  have hi : BitVec.ofBool (decide (max (z i) (-(z i)) < Ideal.ofBits .f32 2139095040#32)) = 1#1 := congrFun h i
  have ht : Ideal.ofBits .f32 2139095040#32 = ⊤ := by simp [Ideal.ofBits, Ideal.ieee]
  rw [ht] at hi
  have hlt : max (z i) (-(z i)) < ⊤ := by
    by_contra hn
    rw [decide_eq_false hn] at hi
    exact absurd hi (by decide)
  generalize z i = x at hlt
  induction x using EReal.rec with
  | bot => exact absurd hlt (by simp)
  | coe r => exact ⟨r, rfl⟩
  | top => exact absurd hlt (by simp)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are given the same images and the same codebook on a device. -/
def Agree : Prop :=
  Cert.ReferenceIdeal.Vq.images (launchContents m' c) = Cert.KernelIdeal.Vq.images m c
    ∧ Cert.ReferenceIdeal.Vq.book (launchContents m' c) = Cert.KernelIdeal.Vq.book m c

variable {m m' c}

/-- The codes are then the same, -/
theorem codes_eq (h : Agree m m' c) : Cert.ReferenceIdeal.Vq.codes (launchContents m' c) = Cert.KernelIdeal.Vq.rows m c := by
  funext j k
  exact congrFun h.2 (ix2 j k)

/-- and so are the pixels. -/
theorem pixels_eq (h : Agree m m' c) : Cert.ReferenceIdeal.Vq.pixels (launchContents m' c) = Cert.KernelIdeal.Vq.pixels m c := by
  funext b k p
  exact (congrFun h.1 _).trans (Cert.KernelIdeal.Vq.flat_apply m c b k p).symm

/-- The first results are equal where the images are finite, -/
theorem equal1 (h : Agree m m' c) (hz : ∀ i, ∃ r : ℝ, Cert.KernelIdeal.Vq.images m c i = (r : EReal)) :
    Cert.ReferenceIdeal.Vq.out1 (after Cert.ReferenceIdeal.Vq.ops (launchContents m' c))
      = (Cert.KernelIdeal.Vq.left m c Cert.KernelIdeal.main_v8 : Vec Ideal Cert.KernelIdeal.S16x64x32x32 .f32) := by
  funext i
  idx_vars i
  refine (Cert.ReferenceIdeal.Vq.result1 _ i0 i1 i2 i3 (by rw [h.1]; exact hz _)).trans ?_
  rw [codes_eq h, pixels_eq h]
  exact (Cert.KernelIdeal.Vq.result1 m c i0 i1 i2 i3).symm

/-- the second are equal, -/
theorem equal2 (h : Agree m m' c) :
    Cert.ReferenceIdeal.Vq.out2 (after Cert.ReferenceIdeal.Vq.ops (launchContents m' c))
      = (Cert.KernelIdeal.Vq.left m c Cert.KernelIdeal.main_v9 : Vec Ideal Cert.KernelIdeal.S16x32x32 .i32) := by
  funext i
  idx_vars i
  refine (Cert.ReferenceIdeal.Vq.result2 _ i0 i1 i2).trans ?_
  rw [codes_eq h, pixels_eq h]
  exact (Cert.KernelIdeal.Vq.result2 m c i0 i1 i2).symm

/-- and the third are. -/
theorem equal3 (h : Agree m m' c) :
    Cert.ReferenceIdeal.Vq.out3 (after Cert.ReferenceIdeal.Vq.ops (launchContents m' c))
      = (Cert.KernelIdeal.Vq.left m c Cert.KernelIdeal.main_v10 : Vec Ideal Cert.KernelIdeal.S_ .f32) := by
  funext i
  refine (Cert.ReferenceIdeal.Vq.result3 _ i).trans ?_
  rw [codes_eq h, pixels_eq h]
  exact (Cert.KernelIdeal.Vq.result3 m c i).symm

/-- The kernel program ends with its results as the launch and the reshapes after it leave them. -/
theorem kernel_results (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v8) = Cert.KernelIdeal.Vq.left m c Cert.KernelIdeal.main_v8
        ∧ r.2.mem ((c.tc : Thread Cert.KernelIdeal.nD Cert.KernelIdeal.τ).loc Cert.KernelIdeal.main_v9) = Cert.KernelIdeal.Vq.left m c Cert.KernelIdeal.main_v9
        ∧ r.2.mem ((c.tc : Thread Cert.KernelIdeal.nD Cert.KernelIdeal.τ).loc Cert.KernelIdeal.main_v10) = Cert.KernelIdeal.Vq.left m c Cert.KernelIdeal.main_v10 :=
  θ_run_mono (Cert.KernelIdeal.Vq.run m g) fun _ h c =>
    ⟨(h.1 c).2 Cert.KernelIdeal.main_v8 (Pipeline.mem_restRefs_of Cert.KernelIdeal.main_v8 (by decide) (by decide)),
      (h.1 c).2 Cert.KernelIdeal.main_v9 (Pipeline.mem_restRefs_of Cert.KernelIdeal.main_v9 (by decide) (by decide)),
      (h.1 c).2 Cert.KernelIdeal.main_v10 (Pipeline.mem_restRefs_of Cert.KernelIdeal.main_v10 (by decide) (by decide))⟩

/-- The reference ends with its results as its operations leave them. -/
theorem reference_results (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v40)
            = Cert.ReferenceIdeal.Vq.out1 (after Cert.ReferenceIdeal.Vq.ops (launchContents m c))
        ∧ r.2.mem ((c.tc : Thread Cert.ReferenceIdeal.nD Cert.ReferenceIdeal.τ).loc Cert.ReferenceIdeal.main_v41)
            = Cert.ReferenceIdeal.Vq.out2 (after Cert.ReferenceIdeal.Vq.ops (launchContents m c))
        ∧ r.2.mem ((c.tc : Thread Cert.ReferenceIdeal.nD Cert.ReferenceIdeal.τ).loc Cert.ReferenceIdeal.main_v38)
            = Cert.ReferenceIdeal.Vq.out3 (after Cert.ReferenceIdeal.Vq.ops (launchContents m c)) := by
  refine θ_run_mono (Cert.ReferenceIdeal.Vq.run (F := Ideal) m g) ?_
  intro r h c
  unfold Cert.ReferenceIdeal.Vq.out1 Cert.ReferenceIdeal.Vq.out2 Cert.ReferenceIdeal.Vq.out3
  refine ⟨?_, ?_, ?_⟩
  · exact h c Cert.ReferenceIdeal.main_v40
  · exact h c Cert.ReferenceIdeal.main_v41
  · exact h c Cert.ReferenceIdeal.main_v38

/-- Over the extended reals the kernel and the reference end with equal results, where the images are finite. -/
theorem algebraic (hp : Cert.Pre_finite_z.Facts) :
    Cert.algebraic_KernelIdeal_ReferenceIdeal_pre_finite_z (hPre_finite_z := hp) := by
  intro m g m' g' hz hag
  have agree : ∀ c, Agree m m' c := fun c => ⟨(hag c).1, (hag c).2⟩
  refine ⟨fun c => Cert.KernelIdeal.Vq.left m c Cert.KernelIdeal.main_v8, fun c => Cert.KernelIdeal.Vq.left m c Cert.KernelIdeal.main_v9,
    fun c => Cert.KernelIdeal.Vq.left m c Cert.KernelIdeal.main_v10, ?_, ?_⟩
  · refine θ_run_mono (θ_run_and (kernel_results m g) (Cert.KernelIdeal.Vq.frame m g)) ?_
    rintro r ⟨h, k, -⟩ c
    obtain ⟨h1, h2, h3⟩ := h c
    obtain ⟨k1, k2⟩ := k c
    exact ⟨h1, h2, h3, k1, k2⟩
  · refine θ_run_mono (θ_run_and (reference_results m' g') (Cert.ReferenceIdeal.Vq.frame m' g')) ?_
    rintro r ⟨h, k, -⟩ c
    obtain ⟨h1, h2, h3⟩ := h c
    obtain ⟨k1, k2⟩ := k c
    exact ⟨h1.trans (equal1 (agree c) (finite_entry hp _ _ (hz c))), h2.trans (equal2 (agree c)), h3.trans (equal3 (agree c)), k1, k2⟩

end Cert.Proof

end
-- ==== Proof.lean ====
/-
  The claims: the kernel, the kernel over the extended reals and the reference each end with their arguments as they
  were and every counter at zero; and over the extended reals the kernel and the reference end with equal results where
  the images are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Printed
public import proofs.«01_k».proof.Proof.Reference
public import proofs.«01_k».proof.Proof.Equal

@[expose] public section

noncomputable section

namespace Cert.Proof

open Idealize.ShloMosaic Idealize.SL.Sem

/-- Every claim holds. -/
theorem claim : Cert.Claim :=
  ⟨Cert.Kernel.Gen.facts, Cert.KernelIdeal.Gen.facts, Cert.ReferenceIdeal.Gen.facts, pre_facts,
    fun m g _ => Cert.Kernel.Vq.frame m g, fun m g _ => Cert.KernelIdeal.Vq.frame m g,
    fun m g _ => Cert.KernelIdeal.Vq.frame m g, fun m g _ => Cert.ReferenceIdeal.Vq.frame m g,
    fun m g _ => Cert.ReferenceIdeal.Vq.frame m g, trivial, algebraic pre_facts⟩

end Cert.Proof

end
